-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S2x4096x1024 : Shape := ⟨3, ![2, 4096, 1024]⟩
abbrev S2 : Shape := ⟨1, ![2]⟩
abbrev S8 : Shape := ⟨1, ![8]⟩
abbrev S3 : Shape := ⟨1, ![3]⟩
abbrev S1 : Shape := ⟨1, ![1]⟩
abbrev S_ : Shape := ⟨0, ![]⟩
abbrev S1024x1024 : Shape := ⟨2, ![1024, 1024]⟩
abbrev S680x1024 : Shape := ⟨2, ![680, 1024]⟩
abbrev S1x4096x1024 : Shape := ⟨3, ![1, 4096, 1024]⟩
abbrev S4096x1024 : Shape := ⟨2, ![4096, 1024]⟩
abbrev S688x1024 : Shape := ⟨2, ![688, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S2x4096x1024, .f32⟩
  | _, _ => ⟨S32768x1024, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_scratch0 : Ref sig .tc := ⟨.vmem, 0, rfl⟩

abbrev nD : Nat := 16
abbrev τ : Topo := Topo.v7x

variable {F : FTy → Type} [FloatOps F]

abbrev grid0 : Pipeline.Grid := .none

def k0_off1 (d0 : Dev nD) (c0_i32_25 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c32768_i32 : BitVec 32 := 32768#32
  let v40 : BitVec 32 := Scalar.muli v2 c32768_i32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c8192_i32 : BitVec 32 := 8192#32
  let v26 : BitVec 32 := Scalar.muli v25 c8192_i32
  let v43 : BitVec 32 := Scalar.addi v40 v26
  let v45 : BitVec 32 := Scalar.addi v43 c0_i32_25
  let c0_i32_93 : BitVec 32 := 0#32
  ![v45.toNat, 0]
def k0_off2 (d0 : Dev nD) (c0_i32_24 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c8192_i32 : BitVec 32 := 8192#32
  let v26 : BitVec 32 := Scalar.muli v25 c8192_i32
  let v44 : BitVec 32 := Scalar.addi v26 c0_i32_24
  let c0_i32_94 : BitVec 32 := 0#32
  ![v44.toNat, 0]
def k0_dev1 (d0 : Dev nD) : Nat :=
  let c0_i32_90 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_89 : BitVec 32 := 8#32
  let v125 : BitVec 32 := Scalar.muli v19 c8_i32_89
  let v126 : BitVec 32 := Scalar.addi c0_i32_90 v125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v127 : BitVec 32 := Scalar.muli v5 c4_i32_91
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v129 : BitVec 32 := Scalar.muli v8 c1_i32_92
  let v130 : BitVec 32 := Scalar.addi v128 v129
  v130.toNat
def k0_dev2 (d0 : Dev nD) : Nat :=
  let c0_i32_98 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_97 : BitVec 32 := 8#32
  let v137 : BitVec 32 := Scalar.muli v19 c8_i32_97
  let v138 : BitVec 32 := Scalar.addi c0_i32_98 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_99 : BitVec 32 := 4#32
  let v139 : BitVec 32 := Scalar.muli v5 c4_i32_99
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v141 : BitVec 32 := Scalar.muli v8 c1_i32_100
  let v142 : BitVec 32 := Scalar.addi v140 v141
  v142.toNat
def k0_dev3 (d0 : Dev nD) : Nat :=
  let c0_i32_106 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_105 : BitVec 32 := 8#32
  let v149 : BitVec 32 := Scalar.muli v19 c8_i32_105
  let v150 : BitVec 32 := Scalar.addi c0_i32_106 v149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v151 : BitVec 32 := Scalar.muli v5 c4_i32_107
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v153 : BitVec 32 := Scalar.muli v8 c1_i32_108
  let v154 : BitVec 32 := Scalar.addi v152 v153
  v154.toNat
def k0_dev4 (d0 : Dev nD) : Nat :=
  let c0_i32_113 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_112 : BitVec 32 := 8#32
  let v161 : BitVec 32 := Scalar.muli v19 c8_i32_112
  let v162 : BitVec 32 := Scalar.addi c0_i32_113 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v163 : BitVec 32 := Scalar.muli v5 c4_i32_114
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v165 : BitVec 32 := Scalar.muli v8 c1_i32_115
  let v166 : BitVec 32 := Scalar.addi v164 v165
  v166.toNat
def k0_dev5 (d0 : Dev nD) : Nat :=
  let c0_i32_121 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_120 : BitVec 32 := 8#32
  let v173 : BitVec 32 := Scalar.muli v19 c8_i32_120
  let v174 : BitVec 32 := Scalar.addi c0_i32_121 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v175 : BitVec 32 := Scalar.muli v5 c4_i32_122
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v177 : BitVec 32 := Scalar.muli v8 c1_i32_123
  let v178 : BitVec 32 := Scalar.addi v176 v177
  v178.toNat
def k0_dev6 (d0 : Dev nD) : Nat :=
  let c0_i32_128 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_127 : BitVec 32 := 8#32
  let v185 : BitVec 32 := Scalar.muli v19 c8_i32_127
  let v186 : BitVec 32 := Scalar.addi c0_i32_128 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_129 : BitVec 32 := 4#32
  let v187 : BitVec 32 := Scalar.muli v5 c4_i32_129
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v189 : BitVec 32 := Scalar.muli v8 c1_i32_130
  let v190 : BitVec 32 := Scalar.addi v188 v189
  v190.toNat
def k0_dev7 (d0 : Dev nD) : Nat :=
  let c0_i32_135 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_134 : BitVec 32 := 8#32
  let v197 : BitVec 32 := Scalar.muli v19 c8_i32_134
  let v198 : BitVec 32 := Scalar.addi c0_i32_135 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_136 : BitVec 32 := 4#32
  let v199 : BitVec 32 := Scalar.muli v5 c4_i32_136
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v201 : BitVec 32 := Scalar.muli v8 c1_i32_137
  let v202 : BitVec 32 := Scalar.addi v200 v201
  v202.toNat
def k0_dev8 (d0 : Dev nD) : Nat :=
  let c0_i32_142 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_141 : BitVec 32 := 8#32
  let v209 : BitVec 32 := Scalar.muli v19 c8_i32_141
  let v210 : BitVec 32 := Scalar.addi c0_i32_142 v209
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_143 : BitVec 32 := 4#32
  let v211 : BitVec 32 := Scalar.muli v5 c4_i32_143
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v213 : BitVec 32 := Scalar.muli v8 c1_i32_144
  let v214 : BitVec 32 := Scalar.addi v212 v213
  v214.toNat
def k0_off3 (d0 : Dev nD) (c0_i32_36 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c32768_i32 : BitVec 32 := 32768#32
  let v40 : BitVec 32 := Scalar.muli v2 c32768_i32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_18 v5
  let c2_i32_20 : BitVec 32 := 2#32
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.subi c1_i32_19 v18
  let v37 : BitVec 32 := Scalar.muli c2_i32_20 v36
  let v38 : BitVec 32 := Scalar.addi v35 v37
  let c8192_i32_21 : BitVec 32 := 8192#32
  let v39 : BitVec 32 := Scalar.muli v38 c8192_i32_21
  let v61 : BitVec 32 := Scalar.addi v40 v39
  let c0_i32_34 : BitVec 32 := 0#32
  let v62 : BitVec 32 := Scalar.addi v61 c0_i32_34
  let v64 : BitVec 32 := Scalar.addi v62 c0_i32_36
  let c0_i32_153 : BitVec 32 := 0#32
  ![v64.toNat, 0]
def k0_off4 (d0 : Dev nD) (c0_i32_35 : BitVec 32) : Fin 2 → Nat :=
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_18 v5
  let c2_i32_20 : BitVec 32 := 2#32
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.subi c1_i32_19 v18
  let v37 : BitVec 32 := Scalar.muli c2_i32_20 v36
  let v38 : BitVec 32 := Scalar.addi v35 v37
  let c8192_i32_21 : BitVec 32 := 8192#32
  let v39 : BitVec 32 := Scalar.muli v38 c8192_i32_21
  let c0_i32_33 : BitVec 32 := 0#32
  let v60 : BitVec 32 := Scalar.addi v39 c0_i32_33
  let v63 : BitVec 32 := Scalar.addi v60 c0_i32_35
  let c0_i32_154 : BitVec 32 := 0#32
  ![v63.toNat, 0]
def k0_dev9 (d0 : Dev nD) : Nat :=
  let c0_i32_150 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_149 : BitVec 32 := 8#32
  let v221 : BitVec 32 := Scalar.muli v19 c8_i32_149
  let v222 : BitVec 32 := Scalar.addi c0_i32_150 v221
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_151 : BitVec 32 := 4#32
  let v223 : BitVec 32 := Scalar.muli v5 c4_i32_151
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v225 : BitVec 32 := Scalar.muli v8 c1_i32_152
  let v226 : BitVec 32 := Scalar.addi v224 v225
  v226.toNat
def k0_dev10 (d0 : Dev nD) : Nat :=
  let c0_i32_158 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_157 : BitVec 32 := 8#32
  let v233 : BitVec 32 := Scalar.muli v19 c8_i32_157
  let v234 : BitVec 32 := Scalar.addi c0_i32_158 v233
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_159 : BitVec 32 := 4#32
  let v235 : BitVec 32 := Scalar.muli v5 c4_i32_159
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v237 : BitVec 32 := Scalar.muli v8 c1_i32_160
  let v238 : BitVec 32 := Scalar.addi v236 v237
  v238.toNat
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c32768_i32 : BitVec 32 := 32768#32
  let v40 : BitVec 32 := Scalar.muli v2 c32768_i32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_18 v5
  let c2_i32_20 : BitVec 32 := 2#32
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.subi c1_i32_19 v18
  let v37 : BitVec 32 := Scalar.muli c2_i32_20 v36
  let v38 : BitVec 32 := Scalar.addi v35 v37
  let c8192_i32_21 : BitVec 32 := 8192#32
  let v39 : BitVec 32 := Scalar.muli v38 c8192_i32_21
  let v61 : BitVec 32 := Scalar.addi v40 v39
  let c0_i32_34 : BitVec 32 := 0#32
  let v62 : BitVec 32 := Scalar.addi v61 c0_i32_34
  let c2048_i32_40 : BitVec 32 := 2048#32
  let v68 : BitVec 32 := Scalar.addi v62 c2048_i32_40
  let c0_i32_169 : BitVec 32 := 0#32
  ![v68.toNat, 0]
def k0_off6 (d0 : Dev nD) : Fin 2 → Nat :=
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_18 v5
  let c2_i32_20 : BitVec 32 := 2#32
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.subi c1_i32_19 v18
  let v37 : BitVec 32 := Scalar.muli c2_i32_20 v36
  let v38 : BitVec 32 := Scalar.addi v35 v37
  let c8192_i32_21 : BitVec 32 := 8192#32
  let v39 : BitVec 32 := Scalar.muli v38 c8192_i32_21
  let c0_i32_33 : BitVec 32 := 0#32
  let v60 : BitVec 32 := Scalar.addi v39 c0_i32_33
  let c2048_i32_39 : BitVec 32 := 2048#32
  let v67 : BitVec 32 := Scalar.addi v60 c2048_i32_39
  let c0_i32_170 : BitVec 32 := 0#32
  ![v67.toNat, 0]
def k0_dev11 (d0 : Dev nD) : Nat :=
  let c0_i32_166 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_165 : BitVec 32 := 8#32
  let v245 : BitVec 32 := Scalar.muli v19 c8_i32_165
  let v246 : BitVec 32 := Scalar.addi c0_i32_166 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_167 : BitVec 32 := 4#32
  let v247 : BitVec 32 := Scalar.muli v5 c4_i32_167
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v249 : BitVec 32 := Scalar.muli v8 c1_i32_168
  let v250 : BitVec 32 := Scalar.addi v248 v249
  v250.toNat
def k0_off7 (d0 : Dev nD) (c0_i32_42 : BitVec 32) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_22 v2
  let c32768_i32_23 : BitVec 32 := 32768#32
  let v42 : BitVec 32 := Scalar.muli v41 c32768_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_11 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.addi v5 v24
  let c8192_i32 : BitVec 32 := 8192#32
  let v26 : BitVec 32 := Scalar.muli v25 c8192_i32
  let v70 : BitVec 32 := Scalar.addi v42 v26
  let v72 : BitVec 32 := Scalar.addi v70 c0_i32_42
  let c0_i32_197 : BitVec 32 := 0#32
  ![v72.toNat, 0]
def k0_dev12 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v277 : BitVec 32 := Scalar.muli v2 c8_i32_193
  let v278 : BitVec 32 := Scalar.addi c0_i32_194 v277
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_195 : BitVec 32 := 4#32
  let v279 : BitVec 32 := Scalar.muli v20 c4_i32_195
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v281 : BitVec 32 := Scalar.muli v8 c1_i32_196
  let v282 : BitVec 32 := Scalar.addi v280 v281
  v282.toNat
def k0_dev13 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v289 : BitVec 32 := Scalar.muli v2 c8_i32_201
  let v290 : BitVec 32 := Scalar.addi c0_i32_202 v289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v291 : BitVec 32 := Scalar.muli v5 c4_i32_203
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_204 : BitVec 32 := 1#32
  let v293 : BitVec 32 := Scalar.muli v23 c1_i32_204
  let v294 : BitVec 32 := Scalar.addi v292 v293
  v294.toNat
def k0_off8 (d0 : Dev nD) (c0_i32_213 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c32768_i32 : BitVec 32 := 32768#32
  let v40 : BitVec 32 := Scalar.muli v2 c32768_i32
  let v306 : BitVec 32 := Scalar.addi v40 c0_i32_213
  let c0_i32_216 : BitVec 32 := 0#32
  ![v306.toNat, 0]
def k0_dev14 (d0 : Dev nD) : Nat :=
  let c0_i32_241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_240 : BitVec 32 := 8#32
  let v332 : BitVec 32 := Scalar.muli v2 c8_i32_240
  let v333 : BitVec 32 := Scalar.addi c0_i32_241 v332
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_242 : BitVec 32 := 4#32
  let v334 : BitVec 32 := Scalar.muli v20 c4_i32_242
  let v335 : BitVec 32 := Scalar.addi v333 v334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v336 : BitVec 32 := Scalar.muli v8 c1_i32_243
  let v337 : BitVec 32 := Scalar.addi v335 v336
  v337.toNat
def k0_dev15 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v344 : BitVec 32 := Scalar.muli v2 c8_i32_248
  let v345 : BitVec 32 := Scalar.addi c0_i32_249 v344
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v346 : BitVec 32 := Scalar.muli v5 c4_i32_250
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_251 : BitVec 32 := 1#32
  let v348 : BitVec 32 := Scalar.muli v23 c1_i32_251
  let v349 : BitVec 32 := Scalar.addi v347 v348
  v349.toNat
def k0_dev16 (d0 : Dev nD) : Nat :=
  let c0_i32_287 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_286 : BitVec 32 := 8#32
  let v387 : BitVec 32 := Scalar.muli v2 c8_i32_286
  let v388 : BitVec 32 := Scalar.addi c0_i32_287 v387
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_288 : BitVec 32 := 4#32
  let v389 : BitVec 32 := Scalar.muli v20 c4_i32_288
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v391 : BitVec 32 := Scalar.muli v8 c1_i32_289
  let v392 : BitVec 32 := Scalar.addi v390 v391
  v392.toNat
def k0_dev17 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v399 : BitVec 32 := Scalar.muli v2 c8_i32_294
  let v400 : BitVec 32 := Scalar.addi c0_i32_295 v399
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_296 : BitVec 32 := 4#32
  let v401 : BitVec 32 := Scalar.muli v5 c4_i32_296
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_297 : BitVec 32 := 1#32
  let v403 : BitVec 32 := Scalar.muli v23 c1_i32_297
  let v404 : BitVec 32 := Scalar.addi v402 v403
  v404.toNat
def k0_dev18 (d0 : Dev nD) : Nat :=
  let c0_i32_333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_332 : BitVec 32 := 8#32
  let v442 : BitVec 32 := Scalar.muli v2 c8_i32_332
  let v443 : BitVec 32 := Scalar.addi c0_i32_333 v442
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_334 : BitVec 32 := 4#32
  let v444 : BitVec 32 := Scalar.muli v20 c4_i32_334
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v446 : BitVec 32 := Scalar.muli v8 c1_i32_335
  let v447 : BitVec 32 := Scalar.addi v445 v446
  v447.toNat
def k0_dev19 (d0 : Dev nD) : Nat :=
  let c0_i32_341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_340 : BitVec 32 := 8#32
  let v454 : BitVec 32 := Scalar.muli v2 c8_i32_340
  let v455 : BitVec 32 := Scalar.addi c0_i32_341 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_342 : BitVec 32 := 4#32
  let v456 : BitVec 32 := Scalar.muli v5 c4_i32_342
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_343 : BitVec 32 := 1#32
  let v458 : BitVec 32 := Scalar.muli v23 c1_i32_343
  let v459 : BitVec 32 := Scalar.addi v457 v458
  v459.toNat
def k0_dev20 (d0 : Dev nD) : Nat :=
  let c0_i32_379 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_378 : BitVec 32 := 8#32
  let v497 : BitVec 32 := Scalar.muli v2 c8_i32_378
  let v498 : BitVec 32 := Scalar.addi c0_i32_379 v497
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_380 : BitVec 32 := 4#32
  let v499 : BitVec 32 := Scalar.muli v20 c4_i32_380
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v501 : BitVec 32 := Scalar.muli v8 c1_i32_381
  let v502 : BitVec 32 := Scalar.addi v500 v501
  v502.toNat
def k0_dev21 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v509 : BitVec 32 := Scalar.muli v2 c8_i32_386
  let v510 : BitVec 32 := Scalar.addi c0_i32_387 v509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v511 : BitVec 32 := Scalar.muli v5 c4_i32_388
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_389 : BitVec 32 := 1#32
  let v513 : BitVec 32 := Scalar.muli v23 c1_i32_389
  let v514 : BitVec 32 := Scalar.addi v512 v513
  v514.toNat
def k0_off9 (d0 : Dev nD) (c0_i32_59 : BitVec 32) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_22 v2
  let c32768_i32_23 : BitVec 32 := 32768#32
  let v42 : BitVec 32 := Scalar.muli v41 c32768_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v33 : BitVec 32 := Scalar.addi v5 v32
  let c8192_i32_17 : BitVec 32 := 8192#32
  let v34 : BitVec 32 := Scalar.muli v33 c8192_i32_17
  let v89 : BitVec 32 := Scalar.addi v42 v34
  let c2728_i32_57 : BitVec 32 := 2728#32
  let v90 : BitVec 32 := Scalar.addi v89 c2728_i32_57
  let v92 : BitVec 32 := Scalar.addi v90 c0_i32_59
  let c0_i32_430 : BitVec 32 := 0#32
  ![v92.toNat, 0]
def k0_dev22 (d0 : Dev nD) : Nat :=
  let c0_i32_427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_426 : BitVec 32 := 8#32
  let v561 : BitVec 32 := Scalar.muli v2 c8_i32_426
  let v562 : BitVec 32 := Scalar.addi c0_i32_427 v561
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_428 : BitVec 32 := 4#32
  let v563 : BitVec 32 := Scalar.muli v20 c4_i32_428
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v565 : BitVec 32 := Scalar.muli v8 c1_i32_429
  let v566 : BitVec 32 := Scalar.addi v564 v565
  v566.toNat
def k0_dev23 (d0 : Dev nD) : Nat :=
  let c0_i32_465 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_464 : BitVec 32 := 8#32
  let v604 : BitVec 32 := Scalar.muli v2 c8_i32_464
  let v605 : BitVec 32 := Scalar.addi c0_i32_465 v604
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_466 : BitVec 32 := 4#32
  let v606 : BitVec 32 := Scalar.muli v20 c4_i32_466
  let v607 : BitVec 32 := Scalar.addi v605 v606
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_467 : BitVec 32 := 1#32
  let v608 : BitVec 32 := Scalar.muli v8 c1_i32_467
  let v609 : BitVec 32 := Scalar.addi v607 v608
  v609.toNat
def k0_dev24 (d0 : Dev nD) : Nat :=
  let c0_i32_473 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_472 : BitVec 32 := 8#32
  let v616 : BitVec 32 := Scalar.muli v2 c8_i32_472
  let v617 : BitVec 32 := Scalar.addi c0_i32_473 v616
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_474 : BitVec 32 := 4#32
  let v618 : BitVec 32 := Scalar.muli v5 c4_i32_474
  let v619 : BitVec 32 := Scalar.addi v617 v618
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_475 : BitVec 32 := 1#32
  let v620 : BitVec 32 := Scalar.muli v23 c1_i32_475
  let v621 : BitVec 32 := Scalar.addi v619 v620
  v621.toNat
def k0_dev25 (d0 : Dev nD) : Nat :=
  let c0_i32_489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_488 : BitVec 32 := 8#32
  let v638 : BitVec 32 := Scalar.muli v2 c8_i32_488
  let v639 : BitVec 32 := Scalar.addi c0_i32_489 v638
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_490 : BitVec 32 := 4#32
  let v640 : BitVec 32 := Scalar.muli v20 c4_i32_490
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v642 : BitVec 32 := Scalar.muli v8 c1_i32_491
  let v643 : BitVec 32 := Scalar.addi v641 v642
  v643.toNat
def k0_dev26 (d0 : Dev nD) : Nat :=
  let c0_i32_527 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_526 : BitVec 32 := 8#32
  let v681 : BitVec 32 := Scalar.muli v2 c8_i32_526
  let v682 : BitVec 32 := Scalar.addi c0_i32_527 v681
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_528 : BitVec 32 := 4#32
  let v683 : BitVec 32 := Scalar.muli v20 c4_i32_528
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v685 : BitVec 32 := Scalar.muli v8 c1_i32_529
  let v686 : BitVec 32 := Scalar.addi v684 v685
  v686.toNat
def k0_dev27 (d0 : Dev nD) : Nat :=
  let c0_i32_535 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_534 : BitVec 32 := 8#32
  let v693 : BitVec 32 := Scalar.muli v2 c8_i32_534
  let v694 : BitVec 32 := Scalar.addi c0_i32_535 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_536 : BitVec 32 := 4#32
  let v695 : BitVec 32 := Scalar.muli v5 c4_i32_536
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_537 : BitVec 32 := 1#32
  let v697 : BitVec 32 := Scalar.muli v23 c1_i32_537
  let v698 : BitVec 32 := Scalar.addi v696 v697
  v698.toNat
def k0_off10 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_22 v2
  let c32768_i32_23 : BitVec 32 := 32768#32
  let v42 : BitVec 32 := Scalar.muli v41 c32768_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2_i32_16 : BitVec 32 := 2#32
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_15 v18
  let v32 : BitVec 32 := Scalar.muli c2_i32_16 v31
  let v33 : BitVec 32 := Scalar.addi v5 v32
  let c8192_i32_17 : BitVec 32 := 8192#32
  let v34 : BitVec 32 := Scalar.muli v33 c8192_i32_17
  let v89 : BitVec 32 := Scalar.addi v42 v34
  let c2728_i32_57 : BitVec 32 := 2728#32
  let v90 : BitVec 32 := Scalar.addi v89 c2728_i32_57
  let c2048_i32_63 : BitVec 32 := 2048#32
  let v96 : BitVec 32 := Scalar.addi v90 c2048_i32_63
  let c0_i32_554 : BitVec 32 := 0#32
  ![v96.toNat, 0]
def k0_dev28 (d0 : Dev nD) : Nat :=
  let c0_i32_551 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_550 : BitVec 32 := 8#32
  let v715 : BitVec 32 := Scalar.muli v2 c8_i32_550
  let v716 : BitVec 32 := Scalar.addi c0_i32_551 v715
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_552 : BitVec 32 := 4#32
  let v717 : BitVec 32 := Scalar.muli v20 c4_i32_552
  let v718 : BitVec 32 := Scalar.addi v716 v717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_553 : BitVec 32 := 1#32
  let v719 : BitVec 32 := Scalar.muli v8 c1_i32_553
  let v720 : BitVec 32 := Scalar.addi v718 v719
  v720.toNat
def k0_dev29 (d0 : Dev nD) : Nat :=
  let c0_i32_579 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_578 : BitVec 32 := 8#32
  let v748 : BitVec 32 := Scalar.muli v2 c8_i32_578
  let v749 : BitVec 32 := Scalar.addi c0_i32_579 v748
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_580 : BitVec 32 := 4#32
  let v750 : BitVec 32 := Scalar.muli v20 c4_i32_580
  let v751 : BitVec 32 := Scalar.addi v749 v750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_581 : BitVec 32 := 1#32
  let v752 : BitVec 32 := Scalar.muli v8 c1_i32_581
  let v753 : BitVec 32 := Scalar.addi v751 v752
  v753.toNat
def k0_dev30 (d0 : Dev nD) : Nat :=
  let c0_i32_587 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_586 : BitVec 32 := 8#32
  let v760 : BitVec 32 := Scalar.muli v2 c8_i32_586
  let v761 : BitVec 32 := Scalar.addi c0_i32_587 v760
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_588 : BitVec 32 := 4#32
  let v762 : BitVec 32 := Scalar.muli v5 c4_i32_588
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_589 : BitVec 32 := 1#32
  let v764 : BitVec 32 := Scalar.muli v23 c1_i32_589
  let v765 : BitVec 32 := Scalar.addi v763 v764
  v765.toNat
def k0_off11 (d0 : Dev nD) (c0_i32_82 : BitVec 32) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_22 v2
  let c32768_i32_23 : BitVec 32 := 32768#32
  let v42 : BitVec 32 := Scalar.muli v41 c32768_i32_23
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.muli c2_i32_13 v18
  let v29 : BitVec 32 := Scalar.addi v27 v28
  let c8192_i32_14 : BitVec 32 := 8192#32
  let v30 : BitVec 32 := Scalar.muli v29 c8192_i32_14
  let v117 : BitVec 32 := Scalar.addi v42 v30
  let c5456_i32_80 : BitVec 32 := 5456#32
  let v118 : BitVec 32 := Scalar.addi v117 c5456_i32_80
  let v120 : BitVec 32 := Scalar.addi v118 c0_i32_82
  let c0_i32_666 : BitVec 32 := 0#32
  ![v120.toNat, 0]
def k0_dev31 (d0 : Dev nD) : Nat :=
  let c0_i32_663 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_662 : BitVec 32 := 8#32
  let v853 : BitVec 32 := Scalar.muli v2 c8_i32_662
  let v854 : BitVec 32 := Scalar.addi c0_i32_663 v853
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_664 : BitVec 32 := 4#32
  let v855 : BitVec 32 := Scalar.muli v5 c4_i32_664
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_665 : BitVec 32 := 1#32
  let v857 : BitVec 32 := Scalar.muli v23 c1_i32_665
  let v858 : BitVec 32 := Scalar.addi v856 v857
  v858.toNat
def k0_dev32 (d0 : Dev nD) : Nat :=
  let c0_i32_679 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_678 : BitVec 32 := 8#32
  let v875 : BitVec 32 := Scalar.muli v2 c8_i32_678
  let v876 : BitVec 32 := Scalar.addi c0_i32_679 v875
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_680 : BitVec 32 := 4#32
  let v877 : BitVec 32 := Scalar.muli v5 c4_i32_680
  let v878 : BitVec 32 := Scalar.addi v876 v877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_681 : BitVec 32 := 1#32
  let v879 : BitVec 32 := Scalar.muli v23 c1_i32_681
  let v880 : BitVec 32 := Scalar.addi v878 v879
  v880.toNat
def k0_off12 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_22 v2
  let c32768_i32_23 : BitVec 32 := 32768#32
  let v42 : BitVec 32 := Scalar.muli v41 c32768_i32_23
  let c1_i32_12 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v27 : BitVec 32 := Scalar.subi c1_i32_12 v5
  let c2_i32_13 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.muli c2_i32_13 v18
  let v29 : BitVec 32 := Scalar.addi v27 v28
  let c8192_i32_14 : BitVec 32 := 8192#32
  let v30 : BitVec 32 := Scalar.muli v29 c8192_i32_14
  let v117 : BitVec 32 := Scalar.addi v42 v30
  let c5456_i32_80 : BitVec 32 := 5456#32
  let v118 : BitVec 32 := Scalar.addi v117 c5456_i32_80
  let c2048_i32_86 : BitVec 32 := 2048#32
  let v124 : BitVec 32 := Scalar.addi v118 c2048_i32_86
  let c0_i32_690 : BitVec 32 := 0#32
  ![v124.toNat, 0]
def k0_dev33 (d0 : Dev nD) : Nat :=
  let c0_i32_687 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_686 : BitVec 32 := 8#32
  let v887 : BitVec 32 := Scalar.muli v2 c8_i32_686
  let v888 : BitVec 32 := Scalar.addi c0_i32_687 v887
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_688 : BitVec 32 := 4#32
  let v889 : BitVec 32 := Scalar.muli v5 c4_i32_688
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_689 : BitVec 32 := 1#32
  let v891 : BitVec 32 := Scalar.muli v23 c1_i32_689
  let v892 : BitVec 32 := Scalar.addi v890 v891
  v892.toNat
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ideal.Body.lean ====
/-
  The kernel's body as a list of commands.

  The body issues thirty-three copies to other devices and sixteen copies within the device, and waits for
  each of them. Here every copy has a name, every operation of the body is one of six commands on a name, and
  the body is the list of those commands, in order.
-/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.K

open Idealize.ShloMosaic Idealize.ShloMosaic.TcCoe
open Idealize.SL Idealize.SL.Sem
open Cert.KernelIdeal.Gen

variable {F : FTy → Type} [FloatOps F]

/-- A copy to another device: `x` sends rows of the device's own part to its partner in the other half of the
    mesh, `y` and `z` send rows on within a half; `m` are the main pieces, `d` and `r` those of the quarter that
    reaches a device by three ways. -/
inductive Snd where
  | xm (k : Fin 8) | xd (k : Fin 3) | ym (k : Fin 8) | yr (k : Fin 3) | zm (k : Fin 8) | zr (k : Fin 3)
  deriving DecidableEq

/-- The shape of `n` full rows. -/
abbrev Row (n : Nat) : Shape := ⟨2, ![n, 1024]⟩

/-- The number of rows a copy moves. -/
def len : Snd → Nat
  | .xm _ | .ym _ | .zm _ => 1024
  | .xd k | .yr k => ![1024, 1024, 680] k
  | .zr k => ![1024, 1024, 688] k

/-- Where the rows of a copy land in the receiver's result. -/
def dOff (c : Dev nD) : Snd → Fin 2 → Nat
  | .xm k => k0_off1 c (BitVec.ofNat 32 (1024 * k.val))
  | .xd k => ![k0_off3 c 0#32, k0_off3 c 1024#32, k0_off5 c] k
  | .ym k | .zm k => k0_off7 c (BitVec.ofNat 32 (1024 * k.val))
  | .yr k => ![k0_off9 c 0#32, k0_off9 c 1024#32, k0_off10 c] k
  | .zr k => ![k0_off11 c 0#32, k0_off11 c 1024#32, k0_off12 c] k

/-- Whether a copy reads the sender's own part, and if so at which rows. -/
def xOff (c : Dev nD) : Snd → Option (Fin 2 → Nat)
  | .xm k => some (k0_off2 c (BitVec.ofNat 32 (1024 * k.val)))
  | .xd k => some (![k0_off4 c 0#32, k0_off4 c 1024#32, k0_off6 c] k)
  | _ => none

/-- The device a copy goes to. -/
def peer (c : Dev nD) : Snd → Dev nD
  | .xm _ | .xd _ => ⟨k0_dev1 c, k0_dev1_lt c⟩
  | .ym _ | .yr _ => ⟨k0_dev12 c, k0_dev12_lt c⟩
  | .zm _ | .zr _ => ⟨k0_dev13 c, k0_dev13_lt c⟩

theorem dOff_inb (c : Dev nD) (s : Snd) : ∀ a, dOff c s a + (Row (len s)).size a ≤ S65536x1024.size a := by
  match s with
  | .xm k => exact k0_off1_inb c k
  | .ym k => exact k0_off7_inb c k
  | .zm k => exact k0_off7_inb c k
  | .xd 0 => exact k0_off3_inb c 0
  | .xd 1 => exact k0_off3_inb c 1
  | .xd 2 => exact k0_off5_inb c
  | .yr 0 => exact k0_off9_inb c 0
  | .yr 1 => exact k0_off9_inb c 1
  | .yr 2 => exact k0_off10_inb c
  | .zr 0 => exact k0_off11_inb c 0
  | .zr 1 => exact k0_off11_inb c 1
  | .zr 2 => exact k0_off12_inb c

theorem xOff_inb (c : Dev nD) (s : Snd) (o : Fin 2 → Nat) (h : xOff c s = some o) :
    ∀ a, o a + (Row (len s)).size a ≤ S32768x1024.size a := by
  match s with
  | .xm k => cases h; exact k0_off2_inb c k
  | .xd 0 => cases h; exact k0_off4_inb c 0
  | .xd 1 => cases h; exact k0_off4_inb c 1
  | .xd 2 => cases h; exact k0_off6_inb c

/-- Rows of a device's own part. -/
def xRows (o : Fin 2 → Nat) (n : Nat) (h : ∀ a, o a + (Row n).size a ≤ S32768x1024.size a) :
    Memref sig .tc .hbm (Row n) .f32 :=
  (Memref.whole main_arg0).slice (Rect.unit (s := S32768x1024) o (Row n).size h) (fun _ => rfl)

/-- Rows of a device's result. -/
def oRows (o : Fin 2 → Nat) (n : Nat) (h : ∀ a, o a + (Row n).size a ≤ S65536x1024.size a) :
    Memref sig .tc .hbm (Row n) .f32 :=
  (Memref.whole main_v1).slice (Rect.unit (s := S65536x1024) o (Row n).size h) (fun _ => rfl)

/-- The rows a copy writes, on the receiver. -/
def dstM (c : Dev nD) (s : Snd) : Memref sig .tc .hbm (Row (len s)) .f32 := oRows (dOff c s) (len s) (dOff_inb c s)

/-- The rows a copy reads, on the sender. -/
def srcM (c : Dev nD) (s : Snd) : Memref sig .tc .hbm (Row (len s)) .f32 :=
  match h : xOff c s with
  | some o => xRows o (len s) (xOff_inb c s o h)
  | none => dstM c s

theorem inb8 (k : Fin 8) : ∀ a, (![k.val] : Fin 1 → Nat) a + S1.size a ≤ S8.size a := by decide +revert
theorem inb3 (k : Fin 3) : ∀ a, (![k.val] : Fin 1 → Nat) a + S1.size a ≤ S3.size a := by decide +revert
theorem inb2 (k : Fin 2) : ∀ a, (![k.val] : Fin 1 → Nat) a + S1.size a ≤ S2.size a := by decide +revert
theorem inbV (k : Fin 2) : ∀ a, (![k.val, 0, 0] : Fin 3 → Nat) a + S1x4096x1024.size a ≤ S2x4096x1024.size a := by
  decide +revert
theorem inbX (i : Fin 8) : ∀ a, (![4096 * i.val, 0] : Fin 2 → Nat) a + S4096x1024.size a ≤ S32768x1024.size a := by
  decide +revert

def sem8 (a : DmaSems sig S8) (k : Fin 8) : DmaSem sig :=
  ((a.slice (Rect.unit (s := S8) ![k.val] S1.size (inb8 k))).squeeze S_ squeezes_S1_S_).sem
def sem3 (a : DmaSems sig S3) (k : Fin 3) : DmaSem sig :=
  ((a.slice (Rect.unit (s := S3) ![k.val] S1.size (inb3 k))).squeeze S_ squeezes_S1_S_).sem
def sem2 (a : DmaSems sig S2) (k : Fin 2) : DmaSem sig :=
  ((a.slice (Rect.unit (s := S2) ![k.val] S1.size (inb2 k))).squeeze S_ squeezes_S1_S_).sem

/-- The semaphore a copy's sender waits on. -/
def sS : Snd → DmaSem sig
  | .xm k => sem8 cc0_scratch3 k
  | .xd k => sem3 cc0_scratch5 k
  | .ym k => sem8 cc0_scratch7 k
  | .yr k => sem3 cc0_scratch9 k
  | .zm k => sem8 cc0_scratch11 k
  | .zr k => sem3 cc0_scratch13 k

/-- The semaphore a copy's receiver waits on. -/
def rS : Snd → DmaSem sig
  | .xm k => sem8 cc0_scratch4 k
  | .xd k => sem3 cc0_scratch6 k
  | .ym k => sem8 cc0_scratch8 k
  | .yr k => sem3 cc0_scratch10 k
  | .zm k => sem8 cc0_scratch12 k
  | .zr k => sem3 cc0_scratch14 k

/-- The slot of the staging buffer that block `i` of the device's own part goes through. -/
def slotOf (i : Fin 8) : Fin 2 := ⟨i.val % 2, Nat.mod_lt _ (by decide)⟩

/-- A slot of the staging buffer. -/
def slotM (p : Fin 2) : Memref sig .tc .vmem S4096x1024 .f32 :=
  ((Memref.whole cc0_scratch0).slice (Rect.unit (s := S2x4096x1024) ![p.val, 0, 0] S1x4096x1024.size (inbV p)) (fun _ => rfl)).squeeze
    S4096x1024 squeezes_S1x4096x1024_S4096x1024

/-- Block `i` of the device's own part. -/
def inM (i : Fin 8) : Memref sig .tc .hbm S4096x1024 .f32 := xRows ![4096 * i.val, 0] 4096 (inbX i)

/-- Where block `i` goes in the device's own result. -/
def outM (c : Dev nD) (i : Fin 8) : Memref sig .tc .hbm S4096x1024 .f32 :=
  oRows (k0_off8 c (BitVec.ofNat 32 (4096 * i.val))) 4096 (k0_off8_inb c i)

/-- An operation of the body: start a copy to another device, wait for one as its receiver or as its sender;
    start a block's copy into the staging buffer or out of it, or wait for that copy. -/
inductive Cmd where
  | go (s : Snd) | wr (s : Snd) | ws (s : Snd)
  | ci (i : Fin 8) | cwi (i : Fin 8) | co (i : Fin 8) | cwo (i : Fin 8)

abbrev KProg (F : FTy → Type) [FloatOps F] : Type 1 := Prog (TpuEff nD τ sig (Elt F) Λ₀ .tc) PUnit

/-- The operation a command stands for, as an effect. -/
def eff (c : Dev nD) : Cmd → TpuEff nD τ sig (Elt F) Λ₀ .tc PUnit
  | .go s => .enqueueDma (srcM c s) (.remote (Dev.tc (peer c s)) (dstM c s) (.dma (sS s))) (.dma (rS s))
      (View.wordExact_bits rfl) (View.wordExact_bits rfl) ⟨⟨rfl, Or.inl rfl⟩, trivial⟩
  | .wr s => .waitDma2 (rS s) (srcM c s) (dstM c s) (View.wordExact_bits rfl) (View.wordExact_bits rfl)
  | .ws s => .waitDma2 (sS s) (dstM c s) (srcM c s) (View.wordExact_bits rfl) (View.wordExact_bits rfl)
  | .ci i => .enqueueDma (inM i) (.here (slotM (slotOf i))) (.dma (sem2 cc0_scratch1 (slotOf i)))
      (View.wordExact_bits rfl) (View.wordExact_bits rfl) ⟨Or.inl rfl, trivial⟩
  | .cwi i => .waitDma2 (sem2 cc0_scratch1 (slotOf i)) (inM i) (slotM (slotOf i))
      (View.wordExact_bits rfl) (View.wordExact_bits rfl)
  | .co i => .enqueueDma (slotM (slotOf i)) (.here (outM c i)) (.dma (sem2 cc0_scratch2 (slotOf i)))
      (View.wordExact_bits rfl) (View.wordExact_bits rfl) ⟨Or.inl rfl, trivial⟩
  | .cwo i => .waitDma2 (sem2 cc0_scratch2 (slotOf i)) (slotM (slotOf i)) (outM c i)
      (View.wordExact_bits rfl) (View.wordExact_bits rfl)

/-- The commands in turn. -/
def runAll (c : Dev nD) : List Cmd → KProg F
  | [] => .ret ⟨⟩
  | a :: l => .op (eff c a) fun _ => runAll c l

/-- The body's commands. -/
def cmds : List Cmd :=
  [.go (.xm 0), .go (.xm 1), .go (.xm 2), .go (.xm 3), .go (.xm 4), .go (.xm 5), .go (.xm 6), .go (.xm 7),
   .go (.xd 0), .go (.xd 1), .go (.xd 2), .ci 0, .ci 1, .wr (.xm 0), .go (.ym 0), .go (.zm 0), .cwi 0,
   .co 0, .cwo 0, .ci 2, .wr (.xm 1), .go (.ym 1), .go (.zm 1), .cwi 1, .co 1, .cwo 1, .ci 3, .wr (.xm 2),
   .go (.ym 2), .go (.zm 2), .cwi 2, .co 2, .cwo 2, .ci 4, .wr (.xm 3), .go (.ym 3), .go (.zm 3), .cwi 3,
   .co 3, .cwo 3, .ci 5, .wr (.xm 4), .go (.ym 4), .go (.zm 4), .wr (.zm 0), .wr (.zm 1), .wr (.zm 2),
   .wr (.zm 3), .go (.yr 0), .cwi 4, .co 4, .cwo 4, .ci 6, .wr (.xm 5), .go (.ym 5), .go (.zm 5),
   .wr (.zm 4), .go (.yr 1), .cwi 5, .co 5, .cwo 5, .ci 7, .wr (.xm 6), .go (.ym 6), .go (.zm 6),
   .wr (.zm 5), .go (.yr 2), .cwi 6, .co 6, .wr (.xm 7), .go (.ym 7), .go (.zm 7), .cwi 7, .co 7,
   .wr (.ym 0), .wr (.ym 1), .wr (.ym 2), .wr (.ym 3), .wr (.ym 4), .wr (.ym 5), .wr (.ym 6), .go (.zr 0),
   .wr (.ym 7), .go (.zr 1), .go (.zr 2), .wr (.zm 6), .wr (.zm 7), .wr (.xd 0), .wr (.xd 1), .wr (.xd 2),
   .wr (.yr 0), .wr (.yr 1), .wr (.yr 2), .wr (.zr 0), .wr (.zr 1), .wr (.zr 2), .ws (.xm 0), .ws (.xm 1),
   .ws (.xm 2), .ws (.xm 3), .ws (.xm 4), .ws (.xm 5), .ws (.xm 6), .ws (.xm 7), .ws (.xd 0), .ws (.xd 1),
   .ws (.xd 2), .ws (.ym 0), .ws (.ym 1), .ws (.ym 2), .ws (.ym 3), .ws (.ym 4), .ws (.ym 5), .ws (.ym 6),
   .ws (.ym 7), .ws (.yr 0), .ws (.yr 1), .ws (.yr 2), .ws (.zm 0), .ws (.zm 1), .ws (.zm 2), .ws (.zm 3),
   .ws (.zm 4), .ws (.zm 5), .ws (.zm 6), .ws (.zm 7), .ws (.zr 0), .ws (.zr 1), .ws (.zr 2), .cwo 6,
   .cwo 7]

set_option maxRecDepth 65536 in
/-- The kernel's body asks for its device and runs the commands. -/
theorem body_eq (t : Fin cfg0.N) :
    bodyAt0 (F := F) t = .op .deviceId fun c => runAll c cmds := rfl

end Cert.KernelIdeal.K

end
-- ==== Proof.Ideal.Geo.lean ====
/-
  Where the rows go.

  The mesh is 2 × 2 × 4; a device is numbered `8 i + 4 j + k`. The devices of one half (`i`) hold the same part,
  and each needs the other half's part as well: 32768 rows, cut in four quarters of 8192. Seen from a device
  the quarters have names: its own (`me`), its neighbours' (`y`, `z`) and the remaining one (`d`). This module
  states which rows each copy reads and writes in those words, and from which device's part each row of a result
  comes.
-/
module

public import proofs.«01_k».proof.Proof.Ideal.Body

@[expose] public section

noncomputable section

namespace Cert.KernelIdeal.K

open Idealize.ShloMosaic Idealize.ShloMosaic.TcCoe
open Idealize.SL Idealize.SL.Sem
open Cert.KernelIdeal.Gen

variable {F : FTy → Type} [FloatOps F]

/-- The first row of the other half's part in a result. -/
def far (c : Dev nD) : Nat := (1 - c.val / 8) * 32768
/-- The first row of the own half's part in a result. -/
def near (c : Dev nD) : Nat := c.val / 8 * 32768

/-- The quarters of the other half's part, as a device sees them. -/
inductive Qt where
  | me | y | z | d
  deriving DecidableEq

/-- The number of a quarter. -/
def qi (c : Dev nD) : Qt → Nat
  | .me => c.val / 4 % 2 + 2 * (c.val % 2)
  | .y => (1 - c.val / 4 % 2) + 2 * (c.val % 2)
  | .z => c.val / 4 % 2 + 2 * (1 - c.val % 2)
  | .d => (1 - c.val / 4 % 2) + 2 * (1 - c.val % 2)

/-- The quarter, as the receiver sees it, that a copy's rows belong to. -/
def quar : Snd → Qt
  | .xm _ => .me
  | .ym _ => .y
  | .zm _ => .z
  | .xd _ | .yr _ | .zr _ => .d

/-- A copy's first row within the quarter. -/
def lo : Snd → Nat
  | .xm k | .ym k | .zm k | .xd k => 1024 * k.val
  | .yr k => 2728 + 1024 * k.val
  | .zr k => 5456 + 1024 * k.val

/-- Whether a copy reads the sender's own part. -/
def isX : Snd → Bool
  | .xm _ | .xd _ => true
  | _ => false

/-- The quarter, as the sender sees it, that a copy's rows belong to. -/
def squar : Snd → Qt
  | .xm _ | .ym _ | .zm _ => .me
  | .xd _ => .d
  | .yr _ => .z
  | .zr _ => .y

theorem lo_len (s : Snd) : lo s + len s ≤ 8192 := by
  match s with
  | .xm k | .ym k | .zm k | .xd k | .yr k | .zr k => revert k; decide

theorem len_pos (s : Snd) : 0 < len s := by
  match s with
  | .xm k | .ym k | .zm k | .xd k | .yr k | .zr k => revert k; decide

theorem qi_lt (c : Dev nD) (q : Qt) : qi c q < 4 := by revert c; cases q <;> decide +kernel

theorem qi_inj (c : Dev nD) (q q' : Qt) (h : qi c q = qi c q') : q = q' := by
  revert c; cases q <;> cases q' <;> decide +kernel

/-- Every quarter has a name. -/
theorem qi_surj (c : Dev nD) (n : Nat) (h : n < 4) : ∃ q, qi c q = n := by
  have : ∀ c : Dev nD, ∀ n : Fin 4, n.val = qi c .me ∨ n.val = qi c .y ∨ n.val = qi c .z ∨ n.val = qi c .d := by
    decide +kernel
  rcases this c ⟨n, h⟩ with h | h | h | h <;> exact ⟨_, h.symm⟩

theorem peer_peer (c : Dev nD) (s : Snd) : peer (peer c s) s = c := by
  match s with
  | .xm k | .ym k | .zm k | .xd k | .yr k | .zr k => revert c k; decide +kernel

theorem far_peer (c : Dev nD) (s : Snd) : far (peer c s) = if isX s then near c else far c := by
  match s with
  | .xm k | .ym k | .zm k | .xd k | .yr k | .zr k => revert c k; decide +kernel

/-- Sender and receiver name the same quarter. -/
theorem qi_peer (c : Dev nD) (s : Snd) : qi (peer c s) (quar s) = qi c (squar s) := by
  match s with
  | .xm k | .ym k | .zm k | .xd k | .yr k | .zr k => revert c k; decide +kernel

/-- Where a copy lands. -/
theorem dOff_eq (c : Dev nD) (s : Snd) :
    dOff c s = ![far (peer c s) + 8192 * qi (peer c s) (quar s) + lo s, 0] := by
  match s with
  | .xm k | .ym k | .zm k | .xd k | .yr k | .zr k => revert c k; decide +kernel

/-- Where a copy from the own part is read. -/
theorem xOff_eq (c : Dev nD) (s : Snd) :
    xOff c s = if isX s then some ![8192 * qi c (squar s) + lo s, 0] else none := by
  match s with
  | .xm k | .ym k | .zm k | .xd k | .yr k | .zr k => revert c k; decide +kernel

/-- Where a block of the own part goes. -/
theorem own_off (c : Dev nD) (i : Fin 8) :
    k0_off8 c (BitVec.ofNat 32 (4096 * i.val)) = ![near c + 4096 * i.val, 0] := by
  revert c i; decide +kernel

/-! ## Which part a row comes from -/

/-- The device whose part the rows of quarter `q` come from. The first third of a device's `d` quarter (`e`)
    comes straight from its partner in the other half; every other row comes from the device that has that
    quarter for its own. -/
def orgQ (c : Dev nD) (q : Fin 4) (e : Bool) : Dev nD :=
  if q.val = qi c .d ∧ e then peer c (.xm 0)
  else ⟨(1 - c.val / 8) * 8 + q.val % 2 * 4 + 2 * (c.val % 4 / 2) + q.val / 2, by
    have h1 := c.isLt; have h2 := q.isLt; simp only [nD] at *; omega⟩

/-- The third of the quarter a copy's rows lie in, as far as it matters. -/
def inThird : Snd → Bool → Bool
  | .xd _, e => e
  | .yr _, e | .zr _, e => !e
  | _, _ => true

theorem inThird_row (s : Snd) (i : Nat) (h : i < len s) : inThird s (decide (lo s + i < 2728)) = true := by
  match s with
  | .xm k | .ym k | .zm k => rfl
  | .xd k =>
    have : ∀ k : Fin 3, lo (.xd k) + len (.xd k) ≤ 2728 := by decide
    have := this k
    simp only [inThird, decide_eq_true_eq]; omega
  | .yr k =>
    have : ¬(lo (.yr k) + i < 2728) := by simp only [lo]; omega
    rw [decide_eq_false this]; rfl
  | .zr k =>
    have : ¬(lo (.zr k) + i < 2728) := by simp only [lo]; omega
    rw [decide_eq_false this]; rfl

/-- A copy from the own part: the receiver's rows come from the sender's part. -/
theorem orgQ_x (c : Dev nD) (s : Snd) (hx : isX s = true) (e : Bool) (h : inThird s e = true) :
    orgQ (peer c s) ⟨qi (peer c s) (quar s), qi_lt _ _⟩ e = c := by
  match s with
  | .xm k | .xd k => clear hx; revert c e k; decide +kernel
  | .ym k | .zm k | .yr k | .zr k => exact absurd hx (by simp [isX])

/-- A copy of rows received before: they come from the same part on the sender and on the receiver. -/
theorem orgQ_f (c : Dev nD) (s : Snd) (hx : isX s = false) (e : Bool) (h : inThird s e = true) :
    orgQ (peer c s) ⟨qi (peer c s) (quar s), qi_lt _ _⟩ e = orgQ c ⟨qi (peer c s) (quar s), qi_lt _ _⟩ e := by
  match s with
  | .ym k | .zm k | .yr k | .zr k => clear hx; revert c e k; decide +kernel
  | .xm k | .xd k => exact absurd hx (by simp [isX])

/-- The device whose part row `r` of device `c`'s result comes from. -/
def org (c : Dev nD) (r : Nat) : Dev nD :=
  if r / 32768 = c.val / 8 then c
  else orgQ c ⟨r % 32768 / 8192, by omega⟩ (decide (r % 8192 < 2728))

theorem org_near (c : Dev nD) (r : Nat) (h1 : near c ≤ r) (h2 : r < near c + 32768) : org c r = c := by
  unfold org near at *; rw [if_pos (by omega)]

theorem half_lt (c : Dev nD) : c.val / 8 < 2 := by revert c; decide

theorem org_far (c : Dev nD) (q : Nat) (hq : q < 4) (l : Nat) (hl : l < 8192) :
    org c (far c + 8192 * q + l) = orgQ c ⟨q, hq⟩ (decide (l < 2728)) := by
  have hc := half_lt c
  have e1 : (far c + 8192 * q + l) / 32768 = 1 - c.val / 8 := by unfold far; omega
  have e2 : (far c + 8192 * q + l) % 32768 / 8192 = q := by unfold far; omega
  have e3 : (far c + 8192 * q + l) % 8192 = l := by unfold far; omega
  unfold org
  rw [if_neg (by omega)]
  congr 1
  · exact Fin.ext e2
  · rw [e3]

/-! ## Contents -/

variable (m : (ℓ : Loc nD τ sig) → Buf (Elt F) ℓ)

/-- A device's own part. -/
def X (c : Dev nD) : Buf (Elt F) ((c.tc : Thread nD τ).loc main_arg0) := m ((c.tc : Thread nD τ).loc main_arg0)

/-- An element of a device's own part. -/
def Xv (c : Dev nD) (j : S32768x1024.Idx) : Elt F .f32 := X m c j

/-- The place in a part that a place of a result comes from. -/
def xix (j : S65536x1024.Idx) : S32768x1024.Idx :=
  fun | 0 => ⟨(j 0).val % 32768, Nat.mod_lt _ (by decide)⟩ | 1 => ⟨(j 1).val, (j 1).isLt⟩

/-- What a device's result holds at the end. -/
def G (c : Dev nD) : Buf (Elt F) ((c.tc : Thread nD τ).loc main_v1) :=
  fun j : S65536x1024.Idx => Xv m (org c (j 0).val) (xix j)

/-- Rows `l`, …, `l + n - 1` of a result. -/
def oSet (l n : Nat) : Finset S65536x1024.Idx := Finset.univ.filter fun j => l ≤ (j 0).val ∧ (j 0).val < l + n
/-- Rows `l`, …, `l + n - 1` of a part. -/
def xSet (l n : Nat) : Finset S32768x1024.Idx := Finset.univ.filter fun j => l ≤ (j 0).val ∧ (j 0).val < l + n

theorem mem_oSet {l n : Nat} {j : S65536x1024.Idx} : j ∈ oSet l n ↔ l ≤ (j 0).val ∧ (j 0).val < l + n := by
  simp [oSet]
theorem mem_xSet {l n : Nat} {j : S32768x1024.Idx} : j ∈ xSet l n ↔ l ≤ (j 0).val ∧ (j 0).val < l + n := by
  simp [xSet]

theorem oRows_set (o : Fin 2 → Nat) (l n : Nat) (h) (ho : o = ![l, 0]) : (oRows o n h).view.set = oSet l n := by
  subst ho
  show (((View.whole main_v1).slice _).set) = _
  rw [View.set_slice_whole]
  ext j
  refine Rect.mem_set_unit.trans (Iff.trans ?_ mem_oSet.symm)
  have h1 : (j 1).val < 1024 := (j 1).isLt
  constructor
  · intro hh; exact hh 0
  · intro hh a
    match a with
    | 0 => exact hh
    | 1 => exact ⟨Nat.zero_le _, by simpa using h1⟩

theorem xRows_set (o : Fin 2 → Nat) (l n : Nat) (h) (ho : o = ![l, 0]) : (xRows o n h).view.set = xSet l n := by
  subst ho
  show (((View.whole main_arg0).slice _).set) = _
  rw [View.set_slice_whole]
  ext j
  refine Rect.mem_set_unit.trans (Iff.trans ?_ mem_xSet.symm)
  have h1 : (j 1).val < 1024 := (j 1).isLt
  constructor
  · intro hh; exact hh 0
  · intro hh a
    match a with
    | 0 => exact hh
    | 1 => exact ⟨Nat.zero_le _, by simpa using h1⟩

/-- After a whole view is written, its elements are those of any contents that read so. -/
theorem write_eq {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-- The place of a result that place `x` of a row window is. -/
def oat (l n : Nat) (h : l + n ≤ 65536) (x : (Row n).Idx) : S65536x1024.Idx :=
  fun | 0 => ⟨l + (x 0).val, by have h1 : (x 0).val < n := (x 0).isLt; show _ < 65536; omega⟩
      | 1 => ⟨(x 1).val, (x 1).isLt⟩

/-- Reading rows of a result, element by element. -/
theorem oRows_read (o : Fin 2 → Nat) (l n : Nat) (h) (ho : o = ![l, 0]) (hl : l + n ≤ 65536)
    (f : (main_v1 : Ref sig .tc).ty.Contents (Elt F)) (x : (Row n).Idx) :
    (oRows o n h).view.read (Elt F) f x = f (oat l n hl x) := by
  subst ho
  show f ((Rect.unit (s := S65536x1024) ![l, 0] (Row n).size h).emb x) = f _
  congr 1
  funext a
  refine Fin.ext ?_
  match a with
  | 0 => show l + 1 * (x 0).val = l + (x 0).val; rw [Nat.one_mul]
  | 1 => show 0 + 1 * (x 1).val = (x 1).val; rw [Nat.one_mul, Nat.zero_add]

/-- Reading rows of a part, element by element. -/
theorem xRows_read (c : Dev nD) (o : Fin 2 → Nat) (l n : Nat) (h) (ho : o = ![l, 0]) (x : (Row n).Idx)
    (j : S32768x1024.Idx) (h0 : (j 0).val = l + (x 0).val) (h1 : (j 1).val = (x 1).val) :
    (xRows o n h).view.read (Elt F) (X m c) x = Xv m c j := by
  subst ho
  show Xv m c ((Rect.unit (s := S32768x1024) ![l, 0] (Row n).size h).emb x) = Xv m c j
  congr 1
  funext a
  refine Fin.ext ?_
  match a with
  | 0 => show l + 1 * (x 0).val = _; rw [h0, Nat.one_mul]
  | 1 => show 0 + 1 * (x 1).val = _; rw [h1, Nat.one_mul, Nat.zero_add]

/-- The first row a copy lands in, on the receiver. -/
def dRow (c : Dev nD) (s : Snd) : Nat := far (peer c s) + 8192 * qi (peer c s) (quar s) + lo s

theorem dRow_le (c : Dev nD) (s : Snd) : dRow c s + len s ≤ 65536 := by
  have := lo_len s; have := qi_lt (peer c s) (quar s); have := half_lt (peer c s); unfold dRow far; omega

theorem dstM_set (c : Dev nD) (s : Snd) : (dstM c s).view.set = oSet (dRow c s) (len s) :=
  oRows_set _ _ _ _ (dOff_eq c s)

theorem dstM_read (c : Dev nD) (s : Snd) (f : (main_v1 : Ref sig .tc).ty.Contents (Elt F)) (x : (Row (len s)).Idx) :
    (dstM c s).view.read (Elt F) f x = f (oat (dRow c s) (len s) (dRow_le c s) x) :=
  oRows_read _ _ _ _ (dOff_eq c s) _ f x

/-- The row a copy's row `i` lands in comes from the part the row says. -/
theorem org_dst (c c' : Dev nD) (s : Snd) (hf : far c' = far (peer c s)) (i : Nat) (hi : i < len s) :
    org c' (dRow c s + i) = orgQ c' ⟨qi (peer c s) (quar s), qi_lt _ _⟩ (decide (lo s + i < 2728)) := by
  unfold dRow
  rw [← hf, Nat.add_assoc, org_far c' _ (qi_lt _ _) (lo s + i) (by have := lo_len s; omega)]

theorem dRow_mod (c : Dev nD) (s : Snd) (i : Nat) (hi : i < len s) :
    (dRow c s + i) % 32768 = 8192 * qi (peer c s) (quar s) + lo s + i := by
  have := lo_len s; have := qi_lt (peer c s) (quar s); have := half_lt (peer c s); unfold dRow far; omega

/-- A copy carries what the receiver's result is to hold: a copy from the own part. -/
theorem val_x (c : Dev nD) (s : Snd) (hx : isX s = true) (o : Fin 2 → Nat) (h)
    (ho : o = ![8192 * qi c (squar s) + lo s, 0]) :
    (dstM c s).view.read (Elt F) (G m (peer c s)) = (xRows o (len s) h).view.read (Elt F) (X m c) := by
  funext x
  have hi : (x 0).val < len s := (x 0).isLt
  rw [dstM_read]
  refine Eq.trans ?_ (xRows_read m c _ _ _ _ ho x (xix (oat _ _ (dRow_le c s) x)) ?_ rfl).symm
  · show Xv m (org _ (dRow c s + (x 0).val)) _ = _
    rw [org_dst c _ s rfl _ hi, orgQ_x c s hx _ (inThird_row s _ hi)]
  · show (dRow c s + (x 0).val) % 32768 = _
    rw [dRow_mod c s _ hi, qi_peer]

/-- A copy carries what the receiver's result is to hold: a copy of rows received before. -/
theorem val_f (c : Dev nD) (s : Snd) (hx : isX s = false) :
    (dstM c s).view.read (Elt F) (G m (peer c s)) = (dstM c s).view.read (Elt F) (G m c) := by
  funext x
  have hi : (x 0).val < len s := (x 0).isLt
  rw [dstM_read, dstM_read]
  show Xv m (org _ (dRow c s + (x 0).val)) _ = Xv m (org _ (dRow c s + (x 0).val)) _
  have hf : far c = far (peer c s) := by rw [far_peer, hx]; rfl
  rw [org_dst c _ s rfl _ hi, org_dst c c s hf _ hi, orgQ_f c s hx _ (inThird_row s _ hi)]

theorem outM_set (c : Dev nD) (i : Fin 8) : (outM c i).view.set = oSet (near c + 4096 * i.val) 4096 :=
  oRows_set _ _ _ _ (own_off c i)

theorem inM_set (i : Fin 8) : (inM i).view.set = xSet (4096 * i.val) 4096 := xRows_set _ _ _ _ rfl

/-- A block of the own part is what the own result is to hold of it. -/
theorem val_own (c : Dev nD) (i : Fin 8) :
    (outM c i).view.read (Elt F) (G m c) = (inM i).view.read (Elt F) (X m c) := by
  funext x
  have hi : (x 0).val < 4096 := (x 0).isLt
  have h8 := i.isLt
  have hc := half_lt c
  have hl : near c + 4096 * i.val + 4096 ≤ 65536 := by unfold near; omega
  refine (oRows_read _ _ _ _ (own_off c i) hl _ x).trans ?_
  refine Eq.trans ?_ (xRows_read m c _ (4096 * i.val) 4096 _ rfl x (xix (oat _ _ hl x)) ?_ rfl).symm
  · show Xv m (org _ (near c + 4096 * i.val + (x 0).val)) _ = _
    rw [org_near c _ (by omega) (by omega)]
  · show (near c + 4096 * i.val + (x 0).val) % 32768 = _
    unfold near; omega

end Cert.KernelIdeal.K

end
-- ==== Proof.Ideal.Proto.lean ====
/-
  The protocol.

  Every semaphore of a device is a cell with rounds: a round of a cell is one copy, the copy's completion is its
  duty, and the payload of a round is what the waiter gets back: the rows that landed, or the rows the copy was
  reading. What a device holds at a moment is a list of tokens; this module says what each token stands for and
  what each command of the body takes from the list and puts in it.
-/
module

public import proofs.«01_k».proof.Proof.Ideal.Geo
public import Idealize.ShloMosaic.Lib.Pipeline.Launch
public import Idealize.ShloMosaic.Lib.Tactic

@[expose] public section

noncomputable section

namespace Cert.KernelIdeal.K

open Idealize.ShloMosaic Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (tallyAt_pos add_pos_cases)
open Cert.KernelIdeal.Gen

variable {F : FTy → Type} [FloatOps F]

/-- The ghost state: the launch's staging cells' and the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Cells -/

/-- A semaphore of a device: of the copies into and out of the staging buffer's slots, and of a copy to another
    device its sender's and its receiver's. -/
inductive Cell where
  | inn (p : Fin 2) | outt (p : Fin 2) | snd (s : Snd) | rcv (s : Snd)
  deriving DecidableEq

def semOf : Cell → DmaSem sig
  | .inn p => sem2 cc0_scratch1 p
  | .outt p => sem2 cc0_scratch2 p
  | .snd s => sS s
  | .rcv s => rS s

/-- All the copies to other devices. -/
def sends : List Snd :=
  (List.finRange 8).map .xm ++ (List.finRange 3).map .xd ++ (List.finRange 8).map .ym
    ++ (List.finRange 3).map .yr ++ (List.finRange 8).map .zm ++ (List.finRange 3).map .zr

theorem mem_sends (s : Snd) : s ∈ sends := by
  match s with
  | .xm k | .ym k | .zm k | .xd k | .yr k | .zr k => revert k; decide

/-- All the cells of a device, in the order of the semaphores. -/
def cells : List Cell :=
  (List.finRange 2).map .inn ++ (List.finRange 2).map .outt
    ++ ((List.finRange 8).map fun k => .snd (.xm k)) ++ ((List.finRange 8).map fun k => .rcv (.xm k))
    ++ ((List.finRange 3).map fun k => .snd (.xd k)) ++ ((List.finRange 3).map fun k => .rcv (.xd k))
    ++ ((List.finRange 8).map fun k => .snd (.ym k)) ++ ((List.finRange 8).map fun k => .rcv (.ym k))
    ++ ((List.finRange 3).map fun k => .snd (.yr k)) ++ ((List.finRange 3).map fun k => .rcv (.yr k))
    ++ ((List.finRange 8).map fun k => .snd (.zm k)) ++ ((List.finRange 8).map fun k => .rcv (.zm k))
    ++ ((List.finRange 3).map fun k => .snd (.zr k)) ++ ((List.finRange 3).map fun k => .rcv (.zr k))

/-- The cell a semaphore is. -/
def cellAt (i : DmaSem sig) : Cell := cells.getD i.val (.inn 0)

theorem cellAt_semOf (k : Cell) : cellAt (semOf k) = k := by
  match k with
  | .inn p | .outt p => revert p; decide +kernel
  | .snd (.xm k) | .snd (.ym k) | .snd (.zm k) | .snd (.xd k) | .snd (.yr k) | .snd (.zr k) => revert k; decide +kernel
  | .rcv (.xm k) | .rcv (.ym k) | .rcv (.zm k) | .rcv (.xd k) | .rcv (.yr k) | .rcv (.zr k) => revert k; decide +kernel

theorem semOf_cellAt : ∀ i : DmaSem sig, semOf (cellAt i) = i := by decide +kernel

theorem semOf_inj {k k' : Cell} (h : semOf k = semOf k') : k = k' := by
  rw [← cellAt_semOf k, h, cellAt_semOf]

/-- The machine's name of a cell. -/
abbrev gcell (c : Dev nD) (k : Cell) : GSem nD τ sig := ((c.tc : Thread nD τ), .dma (semOf k))

/-- How many copies complete on a cell. -/
def rounds : Cell → Nat
  | .inn _ | .outt _ => 4
  | _ => 1

/-- How many rows each of them moves. -/
def rows : Cell → Nat
  | .inn _ | .outt _ => 4096
  | .snd s | .rcv s => len s

/-- What a copy's completion counts. -/
def amt (k : Cell) : Nat := tileCredit (Row (rows k)) .f32

theorem rows_pos (k : Cell) : 0 < rows k := by
  match k with
  | .inn _ | .outt _ => exact (by decide : 0 < 4096)
  | .snd s | .rcv s => exact len_pos s

theorem amt_pos (k : Cell) : 0 < amt k :=
  tileCredit_pos _ _ (by
    refine Finset.prod_induction _ (0 < ·) (fun _ _ ha hb => Nat.mul_pos ha hb) Nat.one_pos fun a _ => ?_
    match a with
    | 0 => exact rows_pos k
    | 1 => exact (by decide : 0 < 1024))

/-! ## Tokens -/

/-- How much of some rows is held: all, or one of the two halves of it. -/
inductive Sh where
  | full | left | right
  deriving DecidableEq

def Sh.val : Sh → PosShare TreeShare
  | .full => fullShare
  | .left => fullShare.left
  | .right => fullShare.right

/-- A piece of a device's memory: rows of a quarter in the result, rows of a quarter in the own part, a block of
    the own part, a block in the result (`own` copied, `ownE` not yet), a slot of the staging buffer (`slotF`
    with the block in it). -/
inductive Mem where
  | out (q : Qt) (l n : Nat) (h : Sh) | x (q : Qt) (l n : Nat) | xc (i : Fin 8) | own (i : Fin 8) | ownE (i : Fin 8)
  | slot (p : Fin 2) | slotF (i : Fin 8)
  deriving DecidableEq

/-- A token: memory, the credit of a copy under way, the owner's position in a cell, a round reached, a duty of a
    local copy, or all that starting a copy to another device takes. -/
inductive Tok where
  | mem (t : Mem) | cred (k : Cell) | pos (k : Cell) (r : Nat) | reach (k : Cell) (r : Nat) | duty (k : Cell) (r : Nat)
  | go (s : Snd)
  deriving DecidableEq

/-- What the staging buffer holds when block `i` is in its slot. -/
def V (c : Dev nD) (i : Fin 8) : Buf (Elt F) ((c.tc : Thread nD τ).loc cc0_scratch0) :=
  (slotM (slotOf i)).view.write (Elt F) (m ((c.tc : Thread nD τ).loc cc0_scratch0))
    ((inM i).view.read (Elt F) (X m c)) Finset.univ

theorem V_read (c : Dev nD) (i : Fin 8) :
    (slotM (slotOf i)).view.read (Elt F) (V m c i) = (inM i).view.read (Elt F) (X m c) :=
  View.read_write_univ (v := (slotM (slotOf i)).view) _ _

/-- The elements of a slot. -/
def slotSet (p : Fin 2) : Finset S2x4096x1024.Idx := (slotM p).view.set

/-- What a piece of memory stands for on device `c`. -/
def memP (c : Dev nD) : Mem → sProp 𝕄
  | .out q l n h => ((c.tc : Thread nD τ).loc main_v1) ↦[oSet (far c + 8192 * qi c q + l) n]{h.val} G m c
  | .x q l n => ((c.tc : Thread nD τ).loc main_arg0) ↦[xSet (8192 * qi c q + l) n]{fullShare.right.right} X m c
  | .xc i => ((c.tc : Thread nD τ).loc main_arg0) ↦[xSet (4096 * i.val) 4096]{fullShare.right.left} X m c
  | .own i => ((c.tc : Thread nD τ).loc main_v1) ↦[oSet (near c + 4096 * i.val) 4096]{fullShare} G m c
  | .ownE i => iprop(∃ f, ((c.tc : Thread nD τ).loc main_v1) ↦[oSet (near c + 4096 * i.val) 4096]{fullShare} f)
  | .slot p => iprop(∃ f, ((c.tc : Thread nD τ).loc cc0_scratch0) ↦[slotSet p]{fullShare} f)
  | .slotF i => ((c.tc : Thread nD τ).loc cc0_scratch0) ↦[slotSet (slotOf i)]{fullShare} V m c i

instance memP_storable (c : Dev nD) (t : Mem) : BI.Storable (upEmb : UEmb _ 𝕄) (memP m c t) := by
  cases t <;> unfold memP <;> infer_instance

/-- All of a list. -/
def all {α : Type} (P : α → sProp 𝕄) : List α → sProp 𝕄
  | [] => iprop(emp)
  | a :: l => iprop(P a ∗ all P l)

theorem all_append {α : Type} (P : α → sProp 𝕄) (l l' : List α) : all P (l ++ l') ⊣⊢ iprop(all P l ∗ all P l') := by
  induction l with
  | nil => exact ⟨BI.emp_sep.2, BI.emp_sep.1⟩
  | cons a l ih =>
    constructor
    · show iprop(P a ∗ all P (l ++ l')) ⊢ iprop((P a ∗ all P l) ∗ all P l')
      iintro ⟨Ha, Hl⟩
      ihave H := ih.1 $$ Hl
      icases H with ⟨Hl, Hl'⟩
      isplitl [Ha Hl]
      · isplitl [Ha] <;> iassumption
      · iexact Hl'
    · show iprop((P a ∗ all P l) ∗ all P l') ⊢ iprop(P a ∗ all P (l ++ l'))
      iintro ⟨⟨Ha, Hl⟩, Hl'⟩
      isplitl [Ha]; · iexact Ha
      iapply ih.2
      isplitl [Hl] <;> iassumption

theorem all_perm {α : Type} (P : α → sProp 𝕄) {l l' : List α} (h : l.Perm l') : all P l ⊢ all P l' := by
  induction h with
  | nil => exact Entails.refl _
  | cons a _ ih => exact sep_mono_right ih
  | swap a b l =>
    show iprop(P b ∗ P a ∗ all P l) ⊢ iprop(P a ∗ P b ∗ all P l)
    iintro ⟨Hb, Ha, Hl⟩
    isplitl [Ha]; · iexact Ha
    isplitl [Hb] <;> iassumption
  | trans _ _ ih₁ ih₂ => exact ih₁.trans ih₂

theorem all_mono {α : Type} {P P' : α → sProp 𝕄} (l : List α) (h : ∀ a ∈ l, P a ⊢ P' a) : all P l ⊢ all P' l := by
  induction l with
  | nil => exact Entails.refl _
  | cons a l ih =>
    exact BI.sep_mono (h a (List.mem_cons_self ..)) (ih fun b hb => h b (List.mem_cons_of_mem _ hb))

theorem all_map {α β : Type} (P : β → sProp 𝕄) (f : α → β) (l : List α) :
    all P (l.map f) = all (fun a => P (f a)) l := by
  induction l with
  | nil => rfl
  | cons a l ih => show iprop(P (f a) ∗ all P (l.map f)) = _; rw [ih]; rfl

instance all_storable {α : Type} (P : α → sProp 𝕄) [∀ a, BI.Storable (upEmb : UEmb _ 𝕄) (P a)] (l : List α) :
    BI.Storable (upEmb : UEmb _ 𝕄) (all P l) := by
  induction l with
  | nil => unfold all; infer_instance
  | cons a l ih => unfold all; infer_instance

/-! ## The schedule -/

/-- The block that passes through slot `p` in round `r`. -/
def blk (p : Fin 2) (r : Nat) : Fin 8 := ⟨(2 * r + p.val) % 8, Nat.mod_lt _ (by decide)⟩

/-- What a copy to another device reads, and its sender gets back. -/
def srcTok : Snd → Mem
  | .xm k => .x .me (lo (.xm k)) (len (.xm k))
  | .xd k => .x .d (lo (.xd k)) (len (.xd k))
  | .ym k => .out .me (lo (.ym k)) (len (.ym k)) .left
  | .zm k => .out .me (lo (.zm k)) (len (.zm k)) .right
  | .yr k => .out .z (lo (.yr k)) (len (.yr k)) .full
  | .zr k => .out .y (lo (.zr k)) (len (.zr k)) .full

/-- What a copy to another device brings its receiver. -/
def dstTok (s : Snd) : Mem := .out (quar s) (lo s) (len s) .full

/-- What the waiter on a cell gets in round `r`. -/
def pay : Cell → Nat → List Mem
  | .inn p, r => [.xc (blk p r), .slotF (blk p r)]
  | .outt p, r => [.own (blk p r), .slot p]
  | .snd s, _ => [srcTok s]
  | .rcv s, _ => [dstTok s]

/-- The protocol: each cell's rounds, what completes them and what they hand over. -/
def sched : Rounds.Schedule (GSem nD τ sig) Unit 𝕄 where
  duties g r := match g.2 with
    | .dma i => if g.1.2 = .tc ∧ r < rounds (cellAt i) then {()} else ∅
    | .reg _ => ∅
  unitless _ := False
  amount g _ _ := match g.2 with
    | .dma i => amt (cellAt i)
    | .reg _ => 1
  payload g r _ := match g.2 with
    | .dma i => all (memP m g.1.1) (pay (cellAt i) r)
    | .reg _ => iprop(emp)
  amount_pos g _ _ _ := by
    match g.2 with
    | .dma i => exact amt_pos _
    | .reg _ => exact Nat.one_pos

instance sched_storable (g : GSem nD τ sig) (r : ℕ) (d : Unit) :
    BI.Storable (upEmb : UEmb _ 𝕄) ((sched (F := F) m).payload g r d) := by
  obtain ⟨t, s⟩ := g
  cases s with
  | dma i => show BI.Storable upEmb (all (memP m t.1) (pay (cellAt i) r)); infer_instance
  | reg i => show BI.Storable upEmb iprop(emp); infer_instance

theorem duties_cell (c : Dev nD) (k : Cell) (r : Nat) (h : r < rounds k) :
    (sched (F := F) m).duties (gcell c k) r = {()} := by
  show (if _ ∧ r < rounds (cellAt (semOf k)) then ({()} : Finset Unit) else ∅) = {()}
  rw [cellAt_semOf]; exact if_pos ⟨rfl, h⟩

theorem duties_end (c : Dev nD) (k : Cell) (r : Nat) (h : rounds k ≤ r) :
    (sched (F := F) m).duties (gcell c k) r = ∅ := by
  show (if _ ∧ r < rounds (cellAt (semOf k)) then ({()} : Finset Unit) else ∅) = ∅
  rw [cellAt_semOf]; exact if_neg fun h' => absurd h'.2 (Nat.not_lt.2 h)

theorem amount_cell (c : Dev nD) (k : Cell) (r : Nat) (d : Unit) : (sched (F := F) m).amount (gcell c k) r d = amt k := by
  show amt (cellAt (semOf k)) = amt k
  rw [cellAt_semOf]

theorem payload_cell (c : Dev nD) (k : Cell) (r : Nat) (d : Unit) :
    (sched (F := F) m).payload (gcell c k) r d = all (memP m c) (pay k r) := by
  show all (memP m c) (pay (cellAt (semOf k)) r) = _
  rw [cellAt_semOf]

theorem expect_cell (c : Dev nD) (k : Cell) (r : Nat) (h : r < rounds k) :
    (sched (F := F) m).expect (gcell c k) r = amt k := by
  unfold Schedule.expect Schedule.amountOf; rw [duties_cell m c k r h, Finset.sum_singleton, amount_cell]

theorem rest_cell (c : Dev nD) (k : Cell) (r : Nat) (h : r < rounds k) :
    bigSep ((sched (F := F) m).duties (gcell c k) r \ ∅) (fun d => (sched (F := F) m).payload (gcell c k) r d)
      = all (memP m c) (pay k r) := by
  rw [Finset.sdiff_empty, duties_cell m c k r h, bigSep_singleton, payload_cell]

/-! ## What a device owes; the levels -/

/-- What a device owes while the copies of `l` are still to start: their receivers' credits. -/
def owed (c : Dev nD) : List Snd → CellTallies nD τ sig Unit
  | [] => 0
  | s :: l => owed c l + tallyAt (gcell (peer c s) (.rcv s)) () (amt (.rcv s))

/-- The level of a cell: a device only waits at levels below those it still owes at. -/
def lvl : Cell → Nat
  | .rcv (.ym k) | .rcv (.zm k) => 1 + k.val
  | .rcv (.yr _) => 9
  | .rcv (.zr _) => 10
  | _ => 0

def L (g : GSem nD τ sig) : Finset Unit := if g.1.2 = .tc then {()} else ∅
def lv (g : GSem nD τ sig) (_ : Unit) : ℕ := match g.2 with
  | .dma i => lvl (cellAt i)
  | .reg _ => 0

theorem L_ne (g : GSem nD τ sig) (h : g.1.2 ≠ .tc) : L g = ∅ := if_neg h
theorem L_cell (c : Dev nD) (k : Cell) : L (gcell c k) = {()} := if_pos rfl
theorem lv_cell (c : Dev nD) (k : Cell) (u : Unit) : lv (gcell c k) u = lvl k := by
  show lvl (cellAt (semOf k)) = lvl k; rw [cellAt_semOf]

theorem owed_pos (c : Dev nD) (l : List Snd) {g : GSem nD τ sig} {u : Unit} (h : 0 < owed c l g u) :
    ∃ s ∈ l, g = gcell (peer c s) (.rcv s) := by
  induction l with
  | nil => exact absurd h (Nat.lt_irrefl 0)
  | cons s l ih =>
    rcases add_pos_cases h with h | h
    · obtain ⟨s', hs, e⟩ := ih h; exact ⟨s', List.mem_cons_of_mem _ hs, e⟩
    · exact ⟨s, List.mem_cons_self .., (tallyAt_pos h).1⟩

/-- A wait below all that is owed is allowed. -/
theorem mayWait (c : Dev nD) (k : Cell) (l : List Snd) (h : ∀ s ∈ l, lvl k < lvl (.rcv s)) :
    (levAts L lv : sProp 𝕄) ⊢ MayWait (c : Thread nD τ) (.dma (semOf k)) () (owed c l) :=
  MayOwe.of_cut (L := L) (lev := lv) (lvl k)
    (fun p hp => by rw [Finset.mem_singleton.mp hp, L_cell]; exact Finset.mem_singleton_self _)
    (fun g u hg => by obtain ⟨s, -, rfl⟩ := owed_pos c l hg; rw [L_cell]; exact Finset.mem_singleton_self _)
    (fun p hp => by rw [Finset.mem_singleton.mp hp, lv_cell])
    (fun g u hg => by obtain ⟨s, hs, rfl⟩ := owed_pos c l hg; rw [lv_cell]; exact h s hs)

/-! ## What tokens stand for -/

/-- What a token stands for on device `c`. -/
def tokP (c : Dev nD) : Tok → sProp 𝕄
  | .mem t => memP m c t
  | .cred k => cred (tallyAt (gcell c k) () (amt k))
  | .pos k r => atPos ER (gcell c k) r ∅ 0
  | .reach k r => reached ER (gcell c k) r
  | .duty k r => dutyTok ER (gcell c k) r ()
  | .go s => iprop(dutyTok ER (gcell c (.snd s)) 0 () ∗ dutyTok ER (gcell (peer c s) (.rcv s)) 0 ()
      ∗ ∃ f, (((peer c s).tc : Thread nD τ).loc main_v1) ↦[oSet (dRow c s) (len s)]{fullShare} f)

variable (κ : Dev nD → DmaSem sig → ℕ)

/-- What all the devices share: the cells' invariants, that every cell has begun, and the levels. -/
def ctx : sProp 𝕄 :=
  iprop((bigSep Finset.univ fun ci : Dev nD × DmaSem sig =>
        cellInv ER (sched m) (κ ci.1 ci.2) ((ci.1.tc : Thread nD τ), .dma ci.2))
    ∗ (bigSep Finset.univ fun ci : Dev nD × DmaSem sig => reached ER ((ci.1.tc : Thread nD τ), .dma ci.2) 0)
    ∗ levAts L lv)

instance ctx_persistent : BI.Persistent (ctx m κ) := by unfold ctx; infer_instance

theorem ctx_inv (c : Dev nD) (k : Cell) : ctx m κ ⊢ cellInv ER (sched m) (κ c (semOf k)) (gcell c k) := by
  unfold ctx
  exact sep_elim_left.trans (show _ ⊢ _ from BI.bigSep_elim (Φ := fun ci : Dev nD × DmaSem sig =>
    cellInv ER (sched m) (κ ci.1 ci.2) ((ci.1.tc : Thread nD τ), .dma ci.2)) (Finset.mem_univ (c, semOf k)))

theorem ctx_reached (c : Dev nD) (k : Cell) : ctx m κ ⊢ reached ER (gcell c k) 0 := by
  unfold ctx
  exact sep_elim_right.trans (sep_elim_left.trans (show _ ⊢ _ from BI.bigSep_elim (Φ := fun ci : Dev nD × DmaSem sig =>
    reached ER ((ci.1.tc : Thread nD τ), .dma ci.2) 0) (Finset.mem_univ (c, semOf k))))

theorem ctx_lev : ctx m κ ⊢ (levAts L lv : sProp 𝕄) := by
  unfold ctx
  iintro ⟨-, -, H⟩
  iexact H

end Cert.KernelIdeal.K

end
-- ==== Proof.Ideal.Steps.lean ====
/-
  The commands, one by one.

  For each command: the tokens it takes, the tokens it leaves, and that running it on a device does that.
-/
module

public import proofs.«01_k».proof.Proof.Ideal.Proto

@[expose] public section

set_option maxRecDepth 10000

noncomputable section

namespace Cert.KernelIdeal.K

open Idealize.ShloMosaic Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (m : (ℓ : Loc nD τ sig) → Buf (Elt F) ℓ) (κ : Dev nD → DmaSem sig → ℕ)

/-! ## What the copies carry -/

/-- Elements under a write through a view are held with the buffer `g` that reads, through the view, as what is written. -/
theorem landed (t : Thread nD τ) {sp : Space} {s : Shape} {e : EltTy} (v : View sig t.2.kind sp s e) (q : PosShare TreeShare)
    (f g : Buf (Elt F) (v.loc t)) (w : s.Idx → Elt F e) (h : v.read (Elt F) g = w) :
    ((v.loc t ↦[v.set]{q} (v.write (Elt F) f w Finset.univ)) : sProp 𝕄) ⊢ (v.loc t ↦[v.set]{q} g) :=
  Entails.of_eq (pointsTo_congr (write_eq v f g w h))

theorem far_src (c : Dev nD) (s : Snd) (hx : isX s = false) : dRow c s = far c + 8192 * qi c (squar s) + lo s := by
  unfold dRow; rw [qi_peer, far_peer, hx]; rfl

/-- The rows a copy reads, held, as the copy's source memory; what they read as is what the receiver is to hold. -/
theorem src_pts (c : Dev nD) (s : Snd) :
    ∃ (q : PosShare TreeShare) (fs : Buf (Elt F) ((srcM c s).view.loc (c : Thread nD τ))),
      (memP m c (srcTok s) : sProp 𝕄) = ((srcM c s).view.loc (c : Thread nD τ) ↦[(srcM c s).view.set]{q} fs)
        ∧ (dstM c s).view.read (Elt F) (G m (peer c s)) = (srcM c s).view.read (Elt F) fs
        ∧ (srcM c s).view.dmaCredit = amt (.snd s) := by
  have h := xOff_eq c s
  have hx (s : Snd) (o h) (ho : o = ![8192 * qi c (squar s) + lo s, 0]) :
      (memP m c (.x (squar s) (lo s) (len s)) : sProp 𝕄)
        = ((xRows o (len s) h).view.loc (c : Thread nD τ) ↦[(xRows o (len s) h).view.set]{fullShare.right.right} X m c) :=
    congrArg (fun S : Finset S32768x1024.Idx => iprop(((c.tc : Thread nD τ).loc main_arg0) ↦[S]{fullShare.right.right} X m c))
      (xRows_set _ _ _ _ ho).symm
  have hf (s : Snd) (q : PosShare TreeShare) (hs : isX s = false) :
      ((((c.tc : Thread nD τ).loc main_v1) ↦[oSet (far c + 8192 * qi c (squar s) + lo s) (len s)]{q} G m c) : sProp 𝕄)
        = ((dstM c s).view.loc (c : Thread nD τ) ↦[(dstM c s).view.set]{q} G m c) :=
    congrArg (fun S : Finset S65536x1024.Idx => iprop(((c.tc : Thread nD τ).loc main_v1) ↦[S]{q} G m c))
      ((congrArg (oSet · _) (far_src c s hs).symm).trans (dstM_set c s).symm)
  match s with
  | .xm k => exact ⟨_, X m c, hx (.xm k) _ _ (Option.some.inj h), val_x m c _ rfl _ _ (Option.some.inj h), rfl⟩
  | .xd k => exact ⟨_, X m c, hx (.xd k) _ _ (Option.some.inj h), val_x m c _ rfl _ _ (Option.some.inj h), rfl⟩
  | .ym k => exact ⟨fullShare.left, G m c, hf (.ym k) fullShare.left rfl, val_f m c (.ym k) rfl, rfl⟩
  | .zm k => exact ⟨fullShare.right, G m c, hf (.zm k) fullShare.right rfl, val_f m c (.zm k) rfl, rfl⟩
  | .yr k => exact ⟨fullShare, G m c, hf (.yr k) fullShare rfl, val_f m c (.yr k) rfl, rfl⟩
  | .zr k => exact ⟨fullShare, G m c, hf (.zr k) fullShare rfl, val_f m c (.zr k) rfl, rfl⟩

/-- Rows written by a copy are what the receiver is to hold. -/
theorem dst_landed (c : Dev nD) (s : Snd) (f : Buf (Elt F) (((peer c s).tc : Thread nD τ).loc main_v1))
    (w : (Row (len s)).Idx → Elt F .f32) (hw : (dstM c s).view.read (Elt F) (G m (peer c s)) = w) :
    (((dstM c s).view.loc ((peer c s).tc : Thread nD τ) ↦[(dstM c s).view.set]{fullShare}
        ((dstM c s).view.write (Elt F) f w Finset.univ)) : sProp 𝕄)
      ⊢ all (memP m (peer c s)) (pay (.rcv s) 0) := by
  refine (landed ((peer c s).tc : Thread nD τ) (dstM c s).view fullShare f (G m (peer c s)) w hw).trans ?_
  show _ ⊢ iprop(memP m (peer c s) (dstTok s) ∗ emp)
  refine Entails.trans (Entails.of_eq ?_) BI.sep_emp.2
  exact congrArg (fun S : Finset S65536x1024.Idx => iprop((((peer c s).tc : Thread nD τ).loc main_v1) ↦[S]{fullShare} G m (peer c s)))
    (dstM_set c s)

/-! ## Starting a copy to another device -/

theorem step_go (c : Dev nD) {Q : PUnit → sProp 𝕄} {k : PUnit → KProg F} (s : Snd) (l : List Snd) (W : Waits sig Unit) :
    iprop(ctx m κ ∗ tokP m c (.go s) ∗ memP m c (srcTok s) ∗ owes (c : Thread nD τ) (owed c (s :: l)) W)
      ⊢ iprop(((tokP m c (.cred (.snd s)) ∗ owes (c : Thread nD τ) (owed c l) W)
            -∗ wp frame (wpE (defs₀ (F := F)) 𝒱₀ (c : Thread nD τ) none) Set.univ (k ⟨⟩) Q)
          -∗ wp frame (wpE (defs₀ (F := F)) 𝒱₀ (c : Thread nD τ) none) Set.univ (.op (eff c (.go s)) k) Q) := by
  obtain ⟨q, fs, he, hv, -⟩ := src_pts m c s
  unfold tokP
  iintro ⟨#Hctx, ⟨Hd1, Hd2, ⟨%f, Hdst⟩⟩, Hsrc, HO⟩
  iapply (Rounds.wp_send_pointsTo 𝒱₀ ER (sched m) (c : Thread nD τ) none (c' := ((peer c s).tc : Thread nD τ))
    (src := srcM c s) (dst := dstM c s) (sS := .dma (sS s)) (sem := .dma (rS s)) (q := q) (fs := fs) (fd := f)
    (r₁ := 0) (r₂ := 0) (d₁ := ()) (d₂ := ()) (κ₁ := κ c (semOf (.snd s))) (κ₂ := κ (peer c s) (semOf (.rcv s)))
    (by rw [show ((c : Thread nD τ), SemLoc.dma (sS s)) = gcell c (.snd s) from rfl, duties_cell m c (.snd s) 0 Nat.one_pos]; exact Finset.mem_singleton_self _)
    (by rw [show (((peer c s).tc : Thread nD τ), SemLoc.dma (rS s)) = gcell (peer c s) (.rcv s) from rfl, duties_cell m (peer c s) (.rcv s) 0 Nat.one_pos]; exact Finset.mem_singleton_self _)
    () () (amt (.rcv s)) rfl (amount_cell m c (.snd s) 0 ()) (amount_cell m (peer c s) (.rcv s) 0 ())
    (owed c l) rfl
    (by
      rw [show ((c : Thread nD τ), SemLoc.dma (sS s)) = gcell c (.snd s) from rfl, payload_cell]
      exact (Entails.of_eq he.symm).trans BI.sep_emp.2)
    (by
      rw [show (((peer c s).tc : Thread nD τ), SemLoc.dma (rS s)) = gcell (peer c s) (.rcv s) from rfl, payload_cell]
      exact dst_landed m c s f _ hv)) $$ [Hd1 Hd2 Hdst Hsrc HO]
  isplitr; · iapply (ctx_inv m κ c (.snd s)); iexact Hctx
  isplitr; · iapply (ctx_inv m κ (peer c s) (.rcv s)); iexact Hctx
  isplitl [Hsrc]; · iapply (Entails.of_eq he); iexact Hsrc
  isplitl [Hdst]
  · iapply (Entails.of_eq (congrArg (fun S : Finset S65536x1024.Idx =>
      (iprop((((peer c s).tc : Thread nD τ).loc main_v1) ↦[S]{fullShare} f) : sProp 𝕄)) (dstM_set c s).symm))
    iexact Hdst
  isplitl [HO]; · iexact HO
  isplitl [Hd1]; · iexact Hd1
  isplitr; · iapply (ctx_reached m κ c (.snd s)); iexact Hctx
  isplitl [Hd2]; · iexact Hd2
  iapply (ctx_reached m κ (peer c s) (.rcv s)); iexact Hctx

/-! ## Waiting -/

theorem step_wait (c : Dev nD) {Q : PUnit → sProp 𝕄} {k : PUnit → KProg F} (w : TpuEff nD τ sig (Elt F) Λ₀ .tc PUnit) (a : Cell) (r : Nat) (l : List Snd) (W : Waits sig Unit)
    (hw : ∀ K : PUnit → sProp 𝕄, wpE (defs₀ (F := F)) 𝒱₀ (c : Thread nD τ) none Set.univ w K
      = waitSpec (c : Thread nD τ) Set.univ (.dma (semOf a)) (amt a) K)
    (hr : r < rounds a) (hl : ∀ s ∈ l, lvl a < lvl (.rcv s)) :
    iprop(ctx m κ ∗ tokP m c (.cred a) ∗ tokP m c (.pos a r) ∗ owes (c : Thread nD τ) (owed c l) W)
      ⊢ iprop(((tokP m c (.pos a (r + 1)) ∗ tokP m c (.reach a (r + 1)) ∗ all (memP m c) (pay a r)
              ∗ owes (c : Thread nD τ) (owed c l) (insert (.dma (semOf a), ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hmw : ctx m κ ⊢ MayWait (c : Thread nD τ) (.dma (semOf a)) () (owed c l) := by
    have h1 := mayWait (F := F) c a l hl
    exact (ctx_lev m κ).trans h1
  unfold tokP
  have h := (Rounds.wp_wait_rest_token 𝒱₀ ER (sched m) (c : Thread nD τ) none (κ := κ c (semOf a)) hw (Set.mem_univ _) ()
    (O := owed c l) (W := W) (R := r) (m := 0) (T := ∅) (by rw [Nat.zero_add]; exact (expect_cell m c a r hr).symm) (Q := Q) (k := k))
  iintro ⟨#Hctx, Hc, Hp, HO⟩ Hk
  iapply h $$ [Hc Hp HO]
  · isplitr; · iapply (ctx_inv m κ c a); iexact Hctx
    isplitl [Hc]; · iexact Hc
    isplitl [HO]; · iexact HO
    isplitr; · iapply hmw; iexact Hctx
    iexact Hp
  iintro ⟨HO, Hp, Hr, Hpay⟩
  iapply Hk
  isplitl [Hp]; · iexact Hp
  isplitl [Hr]; · iexact Hr
  isplitl [Hpay]; · iapply (Entails.of_eq (rest_cell m c a r hr)); iexact Hpay
  iexact HO

/-! ## Copies within the device -/

theorem step_ci (c : Dev nD) {Q : PUnit → sProp 𝕄} {k : PUnit → KProg F} (i : Fin 8) :
    iprop(ctx m κ ∗ tokP m c (.duty (.inn (slotOf i)) (i.val / 2)) ∗ tokP m c (.reach (.inn (slotOf i)) (i.val / 2))
        ∗ memP m c (.xc i) ∗ memP m c (.slot (slotOf i)))
      ⊢ iprop((tokP m c (.cred (.inn (slotOf i)))
            -∗ wp frame (wpE (defs₀ (F := F)) 𝒱₀ (c : Thread nD τ) none) Set.univ (k ⟨⟩) Q)
          -∗ wp frame (wpE (defs₀ (F := F)) 𝒱₀ (c : Thread nD τ) none) Set.univ (.op (eff c (.ci i)) k) Q) := by
  have hb : blk (slotOf i) (i.val / 2) = i := by revert i; decide
  have hr : i.val / 2 < rounds (.inn (slotOf i)) := by show _ < 4; omega
  unfold tokP memP
  iintro ⟨#Hctx, Hd, Hr, Hx, ⟨%f, Hs⟩⟩
  iapply (Rounds.wp_copy_pointsTo 𝒱₀ ER (sched m) (c : Thread nD τ) none (κ := κ c (semOf (.inn (slotOf i))))
    (src := inM i) (dst := slotM (slotOf i)) (sem := .dma (sem2 cc0_scratch1 (slotOf i))) (q := fullShare.right.left)
    (fs := X m c) (fd := f) (r := i.val / 2) (d := ())
    (by rw [show ((c : Thread nD τ), SemLoc.dma (sem2 cc0_scratch1 (slotOf i))) = gcell c (.inn (slotOf i)) from rfl, duties_cell m c _ _ hr]; exact Finset.mem_singleton_self _)
    () (amt (.inn (slotOf i))) rfl (amount_cell m c (.inn (slotOf i)) _ ())
    (by
      rw [show ((c : Thread nD τ), SemLoc.dma (sem2 cc0_scratch1 (slotOf i))) = gcell c (.inn (slotOf i)) from rfl, payload_cell]
      refine (sep_mono_left (landed (c : Thread nD τ) (slotM (slotOf i)).view fullShare f (V m c i) _ (V_read m c i))).trans ?_
      show _ ⊢ iprop(memP m c (.xc (blk (slotOf i) (i.val / 2))) ∗ memP m c (.slotF (blk (slotOf i) (i.val / 2))) ∗ emp)
      rw [hb]
      unfold memP
      iintro ⟨Hs, Hx⟩
      isplitl [Hx]
      · iapply (Entails.of_eq (congrArg (fun S : Finset S32768x1024.Idx =>
          (iprop(((c.tc : Thread nD τ).loc main_arg0) ↦[S]{fullShare.right.left} X m c) : sProp 𝕄)) (inM_set i)))
        iexact Hx
      isplitl [Hs]; · iexact Hs
      iempintro)) $$ [Hd Hr Hx Hs]
  isplitr; · iapply (ctx_inv m κ c (.inn (slotOf i))); iexact Hctx
  isplitl [Hx]
  · iapply (Entails.of_eq (congrArg (fun S : Finset S32768x1024.Idx =>
      (iprop(((c.tc : Thread nD τ).loc main_arg0) ↦[S]{fullShare.right.left} X m c) : sProp 𝕄)) (inM_set i).symm))
    iexact Hx
  isplitl [Hs]; · iexact Hs
  isplitl [Hd]; · iexact Hd
  iexact Hr

theorem step_co (c : Dev nD) {Q : PUnit → sProp 𝕄} {k : PUnit → KProg F} (i : Fin 8) :
    iprop(ctx m κ ∗ tokP m c (.duty (.outt (slotOf i)) (i.val / 2)) ∗ tokP m c (.reach (.outt (slotOf i)) (i.val / 2))
        ∗ memP m c (.slotF i) ∗ memP m c (.ownE i))
      ⊢ iprop((tokP m c (.cred (.outt (slotOf i)))
            -∗ wp frame (wpE (defs₀ (F := F)) 𝒱₀ (c : Thread nD τ) none) Set.univ (k ⟨⟩) Q)
          -∗ wp frame (wpE (defs₀ (F := F)) 𝒱₀ (c : Thread nD τ) none) Set.univ (.op (eff c (.co i)) k) Q) := by
  have hb : blk (slotOf i) (i.val / 2) = i := by revert i; decide
  have hr : i.val / 2 < rounds (.outt (slotOf i)) := by show _ < 4; omega
  unfold tokP memP
  iintro ⟨#Hctx, Hd, Hr, Hs, ⟨%f, Ho⟩⟩
  iapply (Rounds.wp_copy_pointsTo 𝒱₀ ER (sched m) (c : Thread nD τ) none (κ := κ c (semOf (.outt (slotOf i))))
    (src := slotM (slotOf i)) (dst := outM c i) (sem := .dma (sem2 cc0_scratch2 (slotOf i))) (q := fullShare)
    (fs := V m c i) (fd := f) (r := i.val / 2) (d := ())
    (by rw [show ((c : Thread nD τ), SemLoc.dma (sem2 cc0_scratch2 (slotOf i))) = gcell c (.outt (slotOf i)) from rfl, duties_cell m c _ _ hr]; exact Finset.mem_singleton_self _)
    () (amt (.outt (slotOf i))) rfl (amount_cell m c (.outt (slotOf i)) _ ())
    (by
      rw [show ((c : Thread nD τ), SemLoc.dma (sem2 cc0_scratch2 (slotOf i))) = gcell c (.outt (slotOf i)) from rfl, payload_cell]
      refine (sep_mono_left (landed (c : Thread nD τ) (outM c i).view fullShare f (G m c) _ ((val_own m c i).trans (V_read m c i).symm))).trans ?_
      show _ ⊢ iprop(memP m c (.own (blk (slotOf i) (i.val / 2))) ∗ memP m c (.slot (slotOf i)) ∗ emp)
      rw [hb]
      unfold memP
      iintro ⟨Ho, Hs⟩
      isplitl [Ho]
      · iapply (Entails.of_eq (congrArg (fun S : Finset S65536x1024.Idx =>
          (iprop(((c.tc : Thread nD τ).loc main_v1) ↦[S]{fullShare} G m c) : sProp 𝕄)) (outM_set c i)))
        iexact Ho
      isplitl [Hs]
      · iexists (V m c i); iexact Hs
      iempintro)) $$ [Hd Hr Ho Hs]
  isplitr; · iapply (ctx_inv m κ c (.outt (slotOf i))); iexact Hctx
  isplitl [Hs]; · iexact Hs
  isplitl [Ho]
  · iapply (Entails.of_eq (congrArg (fun S : Finset S65536x1024.Idx =>
      (iprop(((c.tc : Thread nD τ).loc main_v1) ↦[S]{fullShare} f) : sProp 𝕄)) (outM_set c i).symm))
    iexact Ho
  isplitl [Hd]; · iexact Hd
  iexact Hr

end Cert.KernelIdeal.K

end
-- ==== Proof.Ideal.Run.lean ====
/-
  The whole body, by bookkeeping.

  What a device holds is a list of tokens. Every command takes some of them and leaves others, and between
  commands rows held are halved, cut or glued. `exec` does this bookkeeping for a list of commands; `run` says
  that when it succeeds, so does the body; `exec_cmds` is the one computation that it does succeed.
-/
module

public import proofs.«01_k».proof.Proof.Ideal.Steps

@[expose] public section

set_option maxRecDepth 10000

noncomputable section

namespace Cert.KernelIdeal.K

open Idealize.ShloMosaic Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (κ : Dev nD → DmaSem sig → ℕ)

/-! ## Taking tokens -/

/-- The list without one occurrence of `a`, if it has one. -/
def pull (a : Tok) : List Tok → Option (List Tok)
  | [] => none
  | b :: l => if a = b then some l else (pull a l).map (b :: ·)

/-- The list without the tokens of another, if it has them. -/
def take : List Tok → List Tok → Option (List Tok)
  | [], h => some h
  | a :: l, h => (pull a h).bind (take l)

theorem pull_sound (P : Tok → sProp 𝕄) (a : Tok) (h h' : List Tok) (e : pull a h = some h') :
    all P h ⊢ iprop(P a ∗ all P h') := by
  induction h generalizing h' with
  | nil => exact absurd e (by simp [pull])
  | cons b l ih =>
    unfold pull at e
    split at e
    · next hab => cases e; subst hab; exact Entails.refl _
    · obtain ⟨l', hl, rfl⟩ := Option.map_eq_some_iff.mp e
      refine (sep_mono_right (ih l' hl)).trans ?_
      show iprop(P b ∗ P a ∗ all P l') ⊢ iprop(P a ∗ P b ∗ all P l')
      iintro ⟨Hb, Ha, Hl⟩
      isplitl [Ha]; · iexact Ha
      isplitl [Hb] <;> iassumption

theorem take_sound (P : Tok → sProp 𝕄) (l h h' : List Tok) (e : take l h = some h') :
    all P h ⊢ iprop(all P l ∗ all P h') := by
  induction l generalizing h with
  | nil => cases e; exact BI.emp_sep.2
  | cons a l ih =>
    obtain ⟨h₁, e₁, e₂⟩ := Option.bind_eq_some_iff.mp e
    refine ((pull_sound P a h h₁ e₁).trans (sep_mono_right (ih h₁ e₂))).trans ?_
    show iprop(P a ∗ all P l ∗ all P h') ⊢ iprop((P a ∗ all P l) ∗ all P h')
    iintro ⟨Ha, Hl, Hh⟩
    isplitl [Ha Hl]
    · isplitl [Ha] <;> iassumption
    · iexact Hh

/-! ## Regrouping rows -/

/-- Rows held in full are halved, cut in two, or glued. -/
inductive Gh where
  | halve (q : Qt) (l n : Nat) | cut (q : Qt) (l a b : Nat) | glue (q : Qt) (l a b : Nat)

def Gh.pre : Gh → List Tok
  | .halve q l n => [.mem (.out q l n .full)]
  | .cut q l a b => [.mem (.out q l (a + b) .full)]
  | .glue q l a b => [.mem (.out q l a .full), .mem (.out q (l + a) b .full)]

def Gh.post : Gh → List Tok
  | .halve q l n => [.mem (.out q l n .left), .mem (.out q l n .right)]
  | .cut q l a b => [.mem (.out q l a .full), .mem (.out q (l + a) b .full)]
  | .glue q l a b => [.mem (.out q l (a + b) .full)]

theorem oSet_add (l a b : Nat) : oSet l (a + b) = oSet l a ∪ oSet (l + a) b := by
  ext i; rw [Finset.mem_union, mem_oSet, mem_oSet, mem_oSet]; omega

theorem oSet_disj (l a b : Nat) : Disjoint (oSet l a) (oSet (l + a) b) := by
  rw [Finset.disjoint_left]; intro i; rw [mem_oSet, mem_oSet]; omega

theorem out_cut (c : Dev nD) (q : Qt) (l a b : Nat) :
    (memP m c (.out q l (a + b) .full) : sProp 𝕄) ⊣⊢ iprop(memP m c (.out q l a .full) ∗ memP m c (.out q (l + a) b .full)) := by
  show (((c.tc : Thread nD τ).loc main_v1) ↦[oSet (far c + 8192 * qi c q + l) (a + b)]{fullShare} G m c)
    ⊣⊢ iprop((((c.tc : Thread nD τ).loc main_v1) ↦[oSet (far c + 8192 * qi c q + l) a]{fullShare} G m c)
      ∗ (((c.tc : Thread nD τ).loc main_v1) ↦[oSet (far c + 8192 * qi c q + (l + a)) b]{fullShare} G m c))
  rw [oSet_add, ← Nat.add_assoc]
  exact pointsTo_union (oSet_disj _ _ _)

theorem gh_sound (c : Dev nD) (x : Gh) : (all (tokP m c) x.pre : sProp 𝕄) ⊢ all (tokP m c) x.post := by
  match x with
  | .halve q l n =>
    show iprop(memP m c (.out q l n .full) ∗ emp) ⊢ iprop(memP m c (.out q l n .left) ∗ memP m c (.out q l n .right) ∗ emp)
    have h : memP m c (.out q l n .full) ⊢ iprop(memP m c (.out q l n .left) ∗ memP m c (.out q l n .right)) := by
      unfold memP
      exact (pointsTo_share (PosShare.mem_left_op_right fullShare)).1
    iintro ⟨H, -⟩
    ihave H := h $$ H
    icases H with ⟨H1, H2⟩
    isplitl [H1]; · iexact H1
    isplitl [H2]; · iexact H2
    iempintro
  | .cut q l a b =>
    show iprop(memP m c (.out q l (a + b) .full) ∗ emp) ⊢ iprop(memP m c (.out q l a .full) ∗ memP m c (.out q (l + a) b .full) ∗ emp)
    iintro ⟨H, -⟩
    ihave H := (out_cut m c q l a b).1 $$ H
    icases H with ⟨H1, H2⟩
    isplitl [H1]; · iexact H1
    isplitl [H2]; · iexact H2
    iempintro
  | .glue q l a b =>
    show iprop(memP m c (.out q l a .full) ∗ memP m c (.out q (l + a) b .full) ∗ emp) ⊢ iprop(memP m c (.out q l (a + b) .full) ∗ emp)
    iintro ⟨H1, H2, -⟩
    isplitl
    · iapply (out_cut m c q l a b).2
      isplitl [H1] <;> iassumption
    · iempintro

/-- Regroupings in turn. -/
def regroup : List Gh → List Tok → Option (List Tok)
  | [], h => some h
  | x :: l, h => (take x.pre h).bind fun h' => regroup l (x.post ++ h')

theorem regroup_sound (c : Dev nD) (l : List Gh) (h h' : List Tok) (e : regroup l h = some h') :
    (all (tokP m c) h : sProp 𝕄) ⊢ all (tokP m c) h' := by
  induction l generalizing h with
  | nil => cases e; exact Entails.refl _
  | cons x l ih =>
    obtain ⟨h₁, e₁, e₂⟩ := Option.bind_eq_some_iff.mp e
    exact ((take_sound _ _ _ _ e₁).trans ((sep_mono_left (gh_sound m c x)).trans (all_append _ _ _).2)).trans (ih _ e₂)

/-! ## Commands on tokens -/

/-- The cell and round a waiting command waits for. -/
def waits : Cmd → Option (Cell × Nat)
  | .wr s => some (.rcv s, 0)
  | .ws s => some (.snd s, 0)
  | .cwi i => some (.inn (slotOf i), i.val / 2)
  | .cwo i => some (.outt (slotOf i), i.val / 2)
  | _ => none

/-- The tokens a command takes. -/
def pre (a : Cmd) : List Tok :=
  match waits a, a with
  | some (k, r), _ => [.cred k, .pos k r]
  | none, .go s => [.go s, .mem (srcTok s)]
  | none, .ci i => [.duty (.inn (slotOf i)) (i.val / 2), .reach (.inn (slotOf i)) (i.val / 2), .mem (.xc i), .mem (.slot (slotOf i))]
  | none, .co i => [.duty (.outt (slotOf i)) (i.val / 2), .reach (.outt (slotOf i)) (i.val / 2), .mem (.slotF i), .mem (.ownE i)]
  | none, _ => []

/-- The tokens a command leaves. -/
def post (a : Cmd) : List Tok :=
  match waits a, a with
  | some (k, r), _ => .pos k (r + 1) :: .reach k (r + 1) :: (pay k r).map .mem
  | none, .go s => [.cred (.snd s)]
  | none, .ci i => [.cred (.inn (slotOf i))]
  | none, .co i => [.cred (.outt (slotOf i))]
  | none, _ => []

/-- The copies still to start after a command, when it may run: the copies start in order, and a wait is below all
    that is still owed. -/
def left (a : Cmd) (l : List Snd) : Option (List Snd) :=
  match waits a, a with
  | some (k, _), _ => if ∀ s ∈ l, lvl k < lvl (.rcv s) then some l else none
  | none, .go s => match l with
    | [] => none
    | s' :: l' => if s = s' then some l' else none
  | none, _ => some l

/-- A device's debt of the copies of `l`, whatever it has waited for. -/
def debt (c : Dev nD) (l : List Snd) : sProp 𝕄 := iprop(∃ W : Waits sig Unit, owes (c : Thread nD τ) (owed c l) W)

/-- What a command is proved to do: on its tokens it runs, and leaves the others. -/
def Does (c : Dev nD) (a : Cmd) (l l' : List Snd) : Prop :=
  ∀ (Q : PUnit → sProp 𝕄) (k : PUnit → KProg F),
    iprop(ctx m κ ∗ all (tokP m c) (pre a) ∗ debt c l)
      ⊢ iprop(((all (tokP m c) (post a) ∗ debt c l')
            -∗ wp frame (wpE (defs₀ (F := F)) 𝒱₀ (c : Thread nD τ) none) Set.univ (k ⟨⟩) Q)
          -∗ wp frame (wpE (defs₀ (F := F)) 𝒱₀ (c : Thread nD τ) none) Set.univ (.op (eff c a) k) Q)

theorem does_wait (c : Dev nD) (a : Cmd) (b : Cell) (r : Nat) (l l' : List Snd) (ha : waits a = some (b, r)) (hr : r < rounds b)
    (hw : ∀ K : PUnit → sProp 𝕄, wpE (defs₀ (F := F)) 𝒱₀ (c : Thread nD τ) none Set.univ (eff c a) K
      = waitSpec (c : Thread nD τ) Set.univ (.dma (semOf b)) (amt b) K)
    (e : left a l = some l') : Does m κ c a l l' := by
  intro Q k
  have hpre : pre a = [.cred b, .pos b r] := by unfold pre; rw [ha]
  have hpost : post a = .pos b (r + 1) :: .reach b (r + 1) :: (pay b r).map .mem := by unfold post; rw [ha]
  have hl : (∀ s ∈ l, lvl b < lvl (.rcv s)) ∧ l = l' := by
    unfold left at e; rw [ha] at e
    by_cases hh : ∀ s ∈ l, lvl b < lvl (.rcv s)
    · exact ⟨hh, Option.some.inj ((if_pos hh).symm.trans e)⟩
    · exact absurd ((if_neg hh).symm.trans e) (by simp)
  obtain ⟨hl, rfl⟩ := hl
  rw [hpre, hpost]
  show iprop(ctx m κ ∗ (tokP m c (.cred b) ∗ tokP m c (.pos b r) ∗ emp) ∗ debt c l)
    ⊢ iprop((((tokP m c (.pos b (r + 1)) ∗ tokP m c (.reach b (r + 1)) ∗ all (tokP m c) ((pay b r).map .mem)) ∗ debt c l) -∗ _) -∗ _)
  rw [all_map]
  unfold debt
  iintro ⟨Hctx, ⟨Hc, Hp, -⟩, ⟨%W, HO⟩⟩ Hk
  iapply (step_wait m κ c (Q := Q) (k := k) (eff c a) b r l W hw hr hl) $$ [Hctx Hc Hp HO]
  · isplitl [Hctx]; · iexact Hctx
    isplitl [Hc]; · iexact Hc
    isplitl [Hp]; · iexact Hp
    iexact HO
  iintro ⟨Hp, Hr, Hm, HO⟩
  iapply Hk
  isplitl [Hp Hr Hm]
  · isplitl [Hp]; · iexact Hp
    isplitl [Hr]; · iexact Hr
    iexact Hm
  · iexists _; iexact HO

theorem does (c : Dev nD) (a : Cmd) (l l' : List Snd) (e : left a l = some l') : Does m κ c a l l' := by
  match a with
  | .wr s =>
    exact does_wait m κ c (.wr s) (.rcv s) 0 l l' rfl Nat.one_pos (fun K => rfl) e
  | .ws s =>
    obtain ⟨q, fs, -, -, hd⟩ := src_pts m c s
    exact does_wait m κ c (.ws s) (.snd s) 0 l l' rfl Nat.one_pos (fun K => by
      show waitSpec (c : Thread nD τ) Set.univ (.dma (sS s)) (srcM c s).view.dmaCredit K = _
      rw [hd]; rfl) e
  | .cwi i =>
    exact does_wait m κ c (.cwi i) (.inn (slotOf i)) (i.val / 2) l l' rfl (by show _ < 4; omega) (fun K => rfl) e
  | .cwo i =>
    exact does_wait m κ c (.cwo i) (.outt (slotOf i)) (i.val / 2) l l' rfl (by show _ < 4; omega) (fun K => rfl) e
  | .go s =>
    intro Q k
    have hl : l = s :: l' := by
      match l, e with
      | s' :: l₁, e =>
        change (if s = s' then some l₁ else none) = some l' at e
        by_cases hs : s = s'
        · rw [if_pos hs] at e; rw [hs, Option.some.inj e]
        · rw [if_neg hs] at e; exact absurd e (by simp)
    subst hl
    show iprop(ctx m κ ∗ (tokP m c (.go s) ∗ memP m c (srcTok s) ∗ emp) ∗ debt c (s :: l'))
      ⊢ iprop((((tokP m c (.cred (.snd s)) ∗ emp) ∗ debt c l') -∗ _) -∗ _)
    unfold debt
    iintro ⟨Hctx, ⟨Hg, Hm, -⟩, ⟨%W, HO⟩⟩ Hk
    iapply (step_go m κ c (Q := Q) (k := k) s l' W) $$ [Hctx Hg Hm HO]
    · isplitl [Hctx]; · iexact Hctx
      isplitl [Hg]; · iexact Hg
      isplitl [Hm]; · iexact Hm
      iexact HO
    iintro ⟨Hc, HO⟩
    iapply Hk
    isplitl [Hc]
    · isplitl [Hc]; · iexact Hc
      iempintro
    · iexists W; iexact HO
  | .ci i =>
    intro Q k
    obtain rfl := Option.some.inj e
    show iprop(ctx m κ ∗ (tokP m c (.duty (.inn (slotOf i)) (i.val / 2)) ∗ tokP m c (.reach (.inn (slotOf i)) (i.val / 2))
        ∗ memP m c (.xc i) ∗ memP m c (.slot (slotOf i)) ∗ emp) ∗ debt c l)
      ⊢ iprop((((tokP m c (.cred (.inn (slotOf i))) ∗ emp) ∗ debt c l) -∗ _) -∗ _)
    iintro ⟨Hctx, ⟨Hd, Hr, Hx, Hs, -⟩, HO⟩ Hk
    iapply (step_ci m κ c (Q := Q) (k := k) i) $$ [Hctx Hd Hr Hx Hs]
    · isplitl [Hctx]; · iexact Hctx
      isplitl [Hd]; · iexact Hd
      isplitl [Hr]; · iexact Hr
      isplitl [Hx] <;> iassumption
    iintro Hc
    iapply Hk
    isplitl [Hc]
    · isplitl [Hc]; · iexact Hc
      iempintro
    · iexact HO
  | .co i =>
    intro Q k
    obtain rfl := Option.some.inj e
    show iprop(ctx m κ ∗ (tokP m c (.duty (.outt (slotOf i)) (i.val / 2)) ∗ tokP m c (.reach (.outt (slotOf i)) (i.val / 2))
        ∗ memP m c (.slotF i) ∗ memP m c (.ownE i) ∗ emp) ∗ debt c l)
      ⊢ iprop((((tokP m c (.cred (.outt (slotOf i))) ∗ emp) ∗ debt c l) -∗ _) -∗ _)
    iintro ⟨Hctx, ⟨Hd, Hr, Hx, Hs, -⟩, HO⟩ Hk
    iapply (step_co m κ c (Q := Q) (k := k) i) $$ [Hctx Hd Hr Hx Hs]
    · isplitl [Hctx]; · iexact Hctx
      isplitl [Hd]; · iexact Hd
      isplitl [Hr]; · iexact Hr
      isplitl [Hx] <;> iassumption
    iintro Hc
    iapply Hk
    isplitl [Hc]
    · isplitl [Hc]; · iexact Hc
      iempintro
    · iexact HO

/-! ## The bookkeeping -/

/-- The regroupings before a command: a chunk to be passed on twice is halved; rows passed on across chunks are
    cut out of them. -/
def before : Cmd → List Gh
  | .go (.ym k) => [.halve .me (1024 * k.val) 1024]
  | .go (.yr 0) => [.cut .z 2048 680 344, .cut .z 3072 680 344, .glue .z 2728 344 680]
  | .go (.yr 1) => [.cut .z 4096 680 344, .glue .z 3752 344 680]
  | .go (.yr 2) => [.cut .z 5120 336 688, .glue .z 4776 344 336]
  | .go (.zr 0) => [.cut .y 5120 336 688, .cut .y 6144 336 688, .glue .y 5456 688 336]
  | .go (.zr 1) => [.cut .y 7168 336 688, .glue .y 6480 688 336]
  | _ => []

/-- What is left to start and what is held after some commands, if the tokens suffice. -/
def exec : List Cmd → List Snd → List Tok → Option (List Snd × List Tok)
  | [], l, h => some (l, h)
  | a :: p, l, h =>
    (left a l).bind fun l' => (regroup (before a) h).bind fun h₁ => (take (pre a) h₁).bind fun h₂ =>
      exec p l' (post a ++ h₂)

theorem exec_sound (c : Dev nD) (Q : PUnit → sProp 𝕄) (p : List Cmd) (l l' : List Snd) (h h' : List Tok)
    (e : exec p l h = some (l', h')) :
    iprop(ctx m κ ∗ all (tokP m c) h ∗ debt c l)
      ⊢ iprop(((all (tokP m c) h' ∗ debt c l') -∗ Q ⟨⟩)
          -∗ wp frame (wpE (defs₀ (F := F)) 𝒱₀ (c : Thread nD τ) none) Set.univ (runAll c p) Q) := by
  induction p generalizing l h with
  | nil =>
    cases e
    iintro ⟨-, Hh, Hd⟩ Hk
    unfold runAll
    rw [wp_ret]
    imodintro
    iapply Hk
    isplitl [Hh] <;> iassumption
  | cons a p ih =>
    obtain ⟨l₁, e₁, e⟩ := Option.bind_eq_some_iff.mp e
    obtain ⟨h₁, e₂, e⟩ := Option.bind_eq_some_iff.mp e
    obtain ⟨h₂, e₃, e⟩ := Option.bind_eq_some_iff.mp e
    have hreg := (regroup_sound m c _ _ _ e₂).trans (take_sound (tokP m c) _ _ _ e₃)
    have hdo := does m κ c a l l₁ e₁ Q (fun _ => runAll c p)
    iintro ⟨#Hctx, Hh, Hd⟩ Hk
    ihave Hh := hreg $$ Hh
    icases Hh with ⟨Hp, Hh⟩
    unfold runAll
    iapply hdo $$ [Hp Hd]
    · isplitr; · iexact Hctx
      isplitl [Hp] <;> iassumption
    iintro ⟨Hp, Hd⟩
    iapply (ih l₁ (post a ++ h₂) e) $$ [Hp Hh Hd]
    · isplitr; · iexact Hctx
      isplitl [Hp Hh]
      · iapply (all_append (tokP m c) (post a) h₂).2
        isplitl [Hp] <;> iassumption
      · iexact Hd
    iexact Hk

/-! ## The body -/

/-- The copies to other devices, in the order the body starts them. -/
def order : List Snd := cmds.filterMap fun | .go s => some s | _ => none

theorem order_perm : order.Perm sends := by decide +kernel

/-- What a device begins with. -/
def ini : List Tok :=
  sends.map .go ++ sends.map (fun s => .cred (.rcv s)) ++ cells.map (fun k => .pos k 0)
    ++ (List.finRange 8).map (fun i => .duty (.inn (slotOf i)) (i.val / 2))
    ++ (List.finRange 8).map (fun i => .duty (.outt (slotOf i)) (i.val / 2))
    ++ (List.finRange 2).map (fun p => .reach (.inn p) 0) ++ (List.finRange 2).map (fun p => .reach (.outt p) 0)
    ++ (List.finRange 8).map (fun k => .mem (srcTok (.xm k))) ++ (List.finRange 3).map (fun k => .mem (srcTok (.xd k)))
    ++ (List.finRange 8).map (fun i => .mem (.xc i)) ++ (List.finRange 8).map (fun i => .mem (.ownE i))
    ++ (List.finRange 2).map (fun p => .mem (.slot p))

/-- The memory a device ends with, of its result: every row is in one of these. -/
def finOut : List Mem :=
  (List.finRange 8).map .own
    ++ (List.finRange 8).map (fun k => .out .me (1024 * k.val) 1024 .left)
    ++ (List.finRange 5).map (fun k => .out .y (1024 * k.val) 1024 .full)
    ++ [.out .y 5120 336 .full] ++ (List.finRange 3).map (fun k => srcTok (.zr k))
    ++ (List.finRange 2).map (fun k => .out .z (1024 * k.val) 1024 .full)
    ++ [.out .z 2048 680 .full] ++ (List.finRange 3).map (fun k => srcTok (.yr k))
    ++ [.out .z 5456 688 .full, .out .z 6144 1024 .full, .out .z 7168 1024 .full]
    ++ (List.finRange 3).map (fun k => dstTok (.xd k)) ++ (List.finRange 3).map (fun k => dstTok (.yr k))
    ++ (List.finRange 3).map (fun k => dstTok (.zr k))

/-- What a device ends with. -/
def fin : List Tok :=
  cells.map (fun k => .pos k (rounds k)) ++ (List.finRange 2).map (fun p => .mem (.slot p)) ++ finOut.map .mem

/-- The bookkeeping of the whole body succeeds. -/
theorem exec_cmds : ((exec cmds order ini).bind fun x => if x.1 = [] then take fin x.2 else none).isSome = true := by
  decide +kernel

/-- The body, from what a device begins with to what it ends with. -/
theorem run (c : Dev nD) (Q : PUnit → sProp 𝕄) :
    iprop(ctx m κ ∗ all (tokP m c) ini ∗ debt c order)
      ⊢ iprop(((all (tokP m c) fin ∗ debt c []) -∗ Q ⟨⟩)
          -∗ wp frame (wpE (defs₀ (F := F)) 𝒱₀ (c : Thread nD τ) none) Set.univ (runAll c cmds) Q) := by
  obtain ⟨h, hh⟩ := Option.isSome_iff_exists.mp exec_cmds
  obtain ⟨⟨l, h'⟩, e, hh⟩ := Option.bind_eq_some_iff.mp hh
  have hl : l = [] ∧ take fin h' = some h := by
    by_cases h0 : l = []
    · exact ⟨h0, (if_pos h0).symm.trans hh⟩
    · exact absurd ((if_neg h0).symm.trans hh) (by simp)
  obtain ⟨rfl, ht⟩ := hl
  have hx := exec_sound m κ c Q cmds order [] ini h' e
  have htk := take_sound (tokP m c) fin h' h ht
  refine hx.trans ?_
  iintro H Hk
  iapply H
  iintro ⟨Hh, Hd⟩
  iapply Hk
  ihave Hh := htk $$ Hh
  icases Hh with ⟨Hf, -⟩
  isplitl [Hf] <;> iassumption

end Cert.KernelIdeal.K

end
-- ==== Proof.Ideal.Deal.lean ====
/-
  What the devices begin with.

  At launch the whole machine's memory and semaphores lie on one pile. Here the pile is dealt: a result is cut into
  the blocks its own device fills and the pieces other devices' copies land in, which go to the senders with the
  duty tokens of the copies; a part is cut into the pieces its copies read; every semaphore gets its invariant.
-/
module

public import proofs.«01_k».proof.Proof.Ideal.Run
public import Idealize.ShloMosaic.Lib.Pipeline.Kit

@[expose] public section

set_option maxRecDepth 10000

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Lists out of sets -/

theorem both {P P' Q Q' : sProp 𝕄} (h : P ⊢ P') (h' : Q ⊢ Q') : iprop(P ∗ Q) ⊢ iprop(P' ∗ Q') := BI.sep_mono h h'

/-- The members of a list without repetitions, out of a set that has them all. -/
theorem all_of_bigSep {α : Type} [DecidableEq α] (Φ : α → sProp 𝕄) (l : List α) (hl : l.Nodup) (S : Finset α)
    (h : ∀ a ∈ l, a ∈ S) : bigSep S Φ ⊢ all Φ l := by
  induction l generalizing S with
  | nil => show bigSep S Φ ⊢ iprop(emp); iintro -; iempintro
  | cons a l ih =>
    have ha := h a (List.mem_cons_self ..)
    rw [BI.bigSep_erase ha]
    refine both (Entails.refl _) (ih (List.nodup_cons.mp hl).2 _ fun b hb => ?_)
    exact Finset.mem_erase.mpr ⟨fun e => (List.nodup_cons.mp hl).1 (e ▸ hb), h b (List.mem_cons_of_mem _ hb)⟩

/-- A set out of a list that has all its members. -/
theorem bigSep_of_all {α : Type} [DecidableEq α] (Φ : α → sProp 𝕄) (l : List α) (S : Finset α)
    (h : ∀ a ∈ S, a ∈ l) : all Φ l ⊢ bigSep S Φ := by
  induction l generalizing S with
  | nil =>
    have : S = ∅ := Finset.eq_empty_of_forall_notMem fun a ha => absurd (h a ha) (by simp)
    subst this; rw [BI.bigSep_empty]; exact Entails.refl _
  | cons a l ih =>
    by_cases ha : a ∈ S
    · rw [BI.bigSep_erase ha]
      refine both (Entails.refl _) (ih _ fun b hb => ?_)
      have hb' := Finset.mem_erase.mp hb
      exact (List.mem_cons.mp (h b hb'.2)).resolve_left hb'.1
    · refine sep_elim_right.trans (ih _ fun b hb => ?_)
      exact (List.mem_cons.mp (h b hb)).resolve_left fun e => ha (e ▸ hb)

/-- A copy's share at its sender, for its share at its receiver. -/
theorem deal (P : Snd → Dev nD → sProp 𝕄) (l : List Snd) :
    (bigSep Finset.univ fun c : Dev nD => all (fun s => P s c) l)
      ⊢ bigSep Finset.univ fun c : Dev nD => all (fun s => P s (peer c s)) l := by
  induction l with
  | nil => exact Entails.refl _
  | cons s l ih =>
    show (bigSep Finset.univ fun c : Dev nD => iprop(P s c ∗ all (fun s => P s c) l))
      ⊢ bigSep Finset.univ fun c : Dev nD => iprop(P s (peer c s) ∗ all (fun s => P s (peer c s)) l)
    rw [bigSep_sep', bigSep_sep']
    have e := bigSep_univ_equiv (⟨fun c => peer c s, fun c => peer c s, fun c => peer_peer c s, fun c => peer_peer c s⟩ :
      Dev nD ≃ Dev nD) (P s)
    exact both (show _ ⊢ _ from Entails.of_eq e) ih

/-! ## Memory in pieces -/

/-- Disjoint pieces out of some elements of a buffer. -/
theorem carve {α : Type} {ℓ : Loc nD τ sig} (q : PosShare TreeShare) (f : Buf (Elt F) ℓ) (D : α → Finset (Idx ℓ))
    (l : List α) (hl : l.Pairwise fun a b => Disjoint (D a) (D b)) (S : Finset (Idx ℓ)) (h : ∀ a ∈ l, D a ⊆ S) :
    (ℓ ↦[S]{q} f : sProp 𝕄) ⊢ all (fun a => ℓ ↦[D a]{q} f) l := by
  classical
  induction l generalizing S with
  | nil => show _ ⊢ iprop(emp); iintro -; iempintro
  | cons a l ih =>
    have hl' := List.pairwise_cons.mp hl
    refine (pointsTo_split_subset (h a (List.mem_cons_self ..))).1.trans (both (Entails.refl _) (ih hl'.2 _ fun b hb => ?_))
    exact Finset.subset_sdiff.mpr ⟨h b (List.mem_cons_of_mem _ hb), (hl'.1 b hb).symm⟩

theorem oSet_off {l n l' n' : Nat} (h : l + n ≤ l' ∨ l' + n' ≤ l) : Disjoint (oSet l n) (oSet l' n') :=
  Finset.disjoint_left.mpr fun j h1 h2 => by
    have h1 := mem_oSet.mp h1; have h2 := mem_oSet.mp h2; omega

theorem xSet_off {l n l' n' : Nat} (h : l + n ≤ l' ∨ l' + n' ≤ l) : Disjoint (xSet l n) (xSet l' n') :=
  Finset.disjoint_left.mpr fun j h1 h2 => by
    have h1 := mem_xSet.mp h1; have h2 := mem_xSet.mp h2; omega

/-- Two copies' rows, seen from their receiver, lie in different quarters or in different places of one. -/
theorem sends_apart : sends.Pairwise fun s s' => quar s ≠ quar s' ∨ lo s + len s ≤ lo s' ∨ lo s' + len s' ≤ lo s := by
  decide +kernel

/-- Where a copy lands, seen from its receiver. -/
def inRow (c : Dev nD) (s : Snd) : Nat := far c + 8192 * qi c (quar s) + lo s

theorem dRow_peer (c : Dev nD) (s : Snd) : dRow c s = inRow (peer c s) s := rfl

/-- The pieces of a result: the blocks of the own part and where copies land. -/
def outPieces : List (Fin 8 ⊕ Snd) := (List.finRange 8).map .inl ++ sends.map .inr

def outSet (c : Dev nD) : Fin 8 ⊕ Snd → Finset S65536x1024.Idx
  | .inl i => oSet (near c + 4096 * i.val) 4096
  | .inr s => oSet (inRow c s) (len s)

theorem outPieces_apart (c : Dev nD) : outPieces.Pairwise fun a b => Disjoint (outSet c a) (outSet c b) := by
  have hc := half_lt c
  refine List.pairwise_append.mpr ⟨?_, ?_, ?_⟩
  · refine List.pairwise_map.mpr ((List.pairwise_lt_finRange 8).imp fun {i j} h => oSet_off (.inl ?_))
    have : i.val < j.val := h
    omega
  · refine List.pairwise_map.mpr (sends_apart.imp fun {s s'} h => oSet_off ?_)
    have h1 := lo_len s; have h2 := lo_len s'
    unfold inRow
    rcases h with h | h
    · have : qi c (quar s) ≠ qi c (quar s') := fun e => h (qi_inj c _ _ e)
      omega
    · by_cases e : quar s = quar s'
      · rw [e]; omega
      · have : qi c (quar s) ≠ qi c (quar s') := fun e' => e (qi_inj c _ _ e')
        omega
  · intro a ha b hb
    obtain ⟨i, -, rfl⟩ := List.mem_map.mp ha
    obtain ⟨s, -, rfl⟩ := List.mem_map.mp hb
    have h1 := lo_len s; have h2 := qi_lt c (quar s); have h3 := i.isLt
    refine oSet_off ?_
    unfold inRow far near
    omega

/-- A result, cut into the own blocks and the landing places. -/
theorem carve_out (c : Dev nD) (f : Buf (Elt F) ((c.tc : Thread nD τ).loc main_v1)) :
    (((c.tc : Thread nD τ).loc main_v1) ↦{fullShare} f : sProp 𝕄)
      ⊢ iprop(all (memP m c) ((List.finRange 8).map .ownE)
          ∗ all (fun s => iprop(∃ f, ((c.tc : Thread nD τ).loc main_v1) ↦[oSet (inRow c s) (len s)]{fullShare} f)) sends) := by
  refine (carve fullShare f (outSet c) outPieces (outPieces_apart c) Finset.univ fun a _ => Finset.subset_univ _).trans ?_
  refine (all_append _ _ _).1.trans ?_
  rw [all_map, all_map, all_map]
  refine both (all_mono _ fun i _ => ?_) (all_mono _ fun s _ => ?_)
  · show (((c.tc : Thread nD τ).loc main_v1) ↦[oSet (near c + 4096 * i.val) 4096]{fullShare} f : sProp 𝕄)
      ⊢ iprop(∃ f, ((c.tc : Thread nD τ).loc main_v1) ↦[oSet (near c + 4096 * i.val) 4096]{fullShare} f)
    iintro H; iexists f; iexact H
  · show (((c.tc : Thread nD τ).loc main_v1) ↦[oSet (inRow c s) (len s)]{fullShare} f : sProp 𝕄) ⊢ _
    iintro H; iexists f; iexact H

/-- The copies that read the sender's own part. -/
def xsends : List Snd := (List.finRange 8).map .xm ++ (List.finRange 3).map .xd

theorem xsends_apart : xsends.Pairwise fun s s' => squar s ≠ squar s' ∨ lo s + len s ≤ lo s' ∨ lo s' + len s' ≤ lo s := by
  decide +kernel

theorem carve_x (c : Dev nD) :
    (((c.tc : Thread nD τ).loc main_arg0) ↦{fullShare.right.right} X m c : sProp 𝕄)
      ⊢ all (memP m c) (xsends.map srcTok) := by
  refine (carve fullShare.right.right (X m c) (fun s => xSet (8192 * qi c (squar s) + lo s) (len s)) xsends
    (xsends_apart.imp fun {s s'} h => xSet_off ?_) Finset.univ fun a _ => Finset.subset_univ _).trans ?_
  · have h1 := lo_len s; have h2 := lo_len s'
    rcases h with h | h
    · have : qi c (squar s) ≠ qi c (squar s') := fun e => h (qi_inj c _ _ e)
      omega
    · by_cases e : squar s = squar s'
      · rw [e]; omega
      · have : qi c (squar s) ≠ qi c (squar s') := fun e' => e (qi_inj c _ _ e')
        omega
  · rw [all_map]
    refine all_mono _ fun s hs => ?_
    match s with
    | .xm k | .xd k => exact Entails.refl _
    | .ym k | .zm k | .yr k | .zr k => exact absurd hs (by revert k; decide +kernel)

theorem carve_xc (c : Dev nD) :
    (((c.tc : Thread nD τ).loc main_arg0) ↦{fullShare.right.left} X m c : sProp 𝕄)
      ⊢ all (memP m c) ((List.finRange 8).map .xc) := by
  refine (carve fullShare.right.left (X m c) (fun i : Fin 8 => xSet (4096 * i.val) 4096) (List.finRange 8)
    ((List.pairwise_lt_finRange 8).imp fun {i j} h => xSet_off (.inl ?_)) Finset.univ fun a _ => Finset.subset_univ _).trans ?_
  · have : i.val < j.val := h
    omega
  · rw [all_map]; exact Entails.refl _

/-- A slot of the staging buffer is half of it, by the first coordinate. -/
theorem mem_slot (p : Fin 2) (j : S2x4096x1024.Idx) : j ∈ slotSet p ↔ (j 0).val = p.val := by
  have e : slotSet p = (Rect.unit (s := S2x4096x1024) ![p.val, 0, 0] S1x4096x1024.size (inbV p)).set :=
    (View.set_reshape _ _).trans (View.set_slice_whole _ _)
  rw [e]
  refine Rect.mem_set_unit.trans ?_
  have h1 : (j 1).val < 4096 := (j 1).isLt
  have h2 : (j 2).val < 1024 := (j 2).isLt
  constructor
  · intro h
    have h0 : p.val ≤ (j 0).val ∧ (j 0).val < p.val + 1 := h 0
    omega
  · intro h a
    match a with
    | 0 => show p.val ≤ (j 0).val ∧ (j 0).val < p.val + 1; omega
    | 1 => show 0 ≤ (j 1).val ∧ (j 1).val < 0 + 4096; omega
    | 2 => show 0 ≤ (j 2).val ∧ (j 2).val < 0 + 1024; omega

theorem slots_off : Disjoint (slotSet 0) (slotSet 1) :=
  Finset.disjoint_left.mpr fun j h0 h1 => by
    have h0 := (mem_slot 0 j).mp h0; have h1 := (mem_slot 1 j).mp h1
    rw [h0] at h1; exact absurd h1 (by decide)

theorem slots_all : slotSet 0 ∪ slotSet 1 = Finset.univ :=
  Finset.eq_univ_of_forall fun j => by
    have h : (j 0).val < 2 := (j 0).isLt
    rcases (by omega : (j 0).val = 0 ∨ (j 0).val = 1) with h | h
    · exact Finset.mem_union_left _ ((mem_slot 0 j).mpr h)
    · exact Finset.mem_union_right _ ((mem_slot 1 j).mpr h)

/-- The staging buffer is its two slots. -/
theorem slots_split (c : Dev nD) :
    iprop(∃ f, ((c.tc : Thread nD τ).loc cc0_scratch0) ↦{fullShare} f)
      ⊢ all (memP m c) ((List.finRange 2).map .slot) := by
  show _ ⊢ iprop((∃ f, ((c.tc : Thread nD τ).loc cc0_scratch0) ↦[slotSet 0]{fullShare} f)
    ∗ (∃ f, ((c.tc : Thread nD τ).loc cc0_scratch0) ↦[slotSet 1]{fullShare} f) ∗ emp)
  iintro ⟨%f, H⟩
  ihave H := (show (((c.tc : Thread nD τ).loc cc0_scratch0) ↦{fullShare} f : sProp 𝕄)
    ⊢ iprop((((c.tc : Thread nD τ).loc cc0_scratch0) ↦[slotSet 0]{fullShare} f)
      ∗ (((c.tc : Thread nD τ).loc cc0_scratch0) ↦[slotSet 1]{fullShare} f)) from
    (Entails.of_eq (by rw [← slots_all])).trans (pointsTo_union slots_off).1) $$ H
  icases H with ⟨H0, H1⟩
  isplitl [H0]; · iexists f; iexact H0
  isplitl [H1]; · iexists f; iexact H1
  iempintro

theorem slots_join (c : Dev nD) :
    all (memP m c) ((List.finRange 2).map .slot)
      ⊢ iprop(∃ f, ((c.tc : Thread nD τ).loc cc0_scratch0) ↦{fullShare} f) := by
  show iprop((∃ f, ((c.tc : Thread nD τ).loc cc0_scratch0) ↦[slotSet 0]{fullShare} f)
    ∗ (∃ f, ((c.tc : Thread nD τ).loc cc0_scratch0) ↦[slotSet 1]{fullShare} f) ∗ emp) ⊢ _
  iintro ⟨⟨%f, H0⟩, ⟨%g, H1⟩, -⟩
  iexists ((slotSet 1).piecewise g f)
  iapply (show iprop((((c.tc : Thread nD τ).loc cc0_scratch0) ↦[slotSet 0]{fullShare} f)
      ∗ (((c.tc : Thread nD τ).loc cc0_scratch0) ↦[slotSet 1]{fullShare} g))
    ⊢ (((c.tc : Thread nD τ).loc cc0_scratch0) ↦{fullShare} (slotSet 1).piecewise g f : sProp 𝕄) from
    (pointsTo_join (ℓ := (c.tc : Thread nD τ).loc cc0_scratch0) (I := slotSet 0) (J := slotSet 1) slots_off).trans
      (Entails.of_eq (by rw [slots_all])))
  isplitl [H0] <;> iassumption

/-! ## The credits of the copies a device receives -/

theorem creds (c : Dev nD) (l : List Snd) :
    (Pipeline.launchCred (fun d => owed d l) c : sProp 𝕄) ⊢ all (fun s => cred (tallyAt (gcell c (.rcv s)) () (amt (.rcv s)))) l := by
  induction l with
  | nil => show _ ⊢ iprop(emp); iintro -; iempintro
  | cons s l ih =>
    show (Pipeline.launchCred (fun d => owed d l + tallyAt (gcell (peer d s) (.rcv s)) () (amt (.rcv s))) c : sProp 𝕄) ⊢ _
    rw [Pipeline.launchCred_add]
    refine (both ih (Pipeline.launchCred_tallyAt (.dma (semOf (.rcv s))) (fun d => peer d s) (fun d => peer d s)
      (fun d => peer_peer d s) (fun d => peer_peer d s) () (amt (.rcv s)) c)).trans ?_
    exact sep_comm.1

/-! ## The semaphores' ghost state -/

/-- The semaphores of all the devices. -/
def gsem (ci : Dev nD × DmaSem sig) : GSem nD τ sig := ((ci.1.tc : Thread nD τ), .dma ci.2)

theorem gsem_inj : Function.Injective gsem := by
  rintro ⟨c, i⟩ ⟨c', i'⟩ h
  have h1 : c = c' := congrArg (fun g : GSem nD τ sig => g.1.1) h
  have h2 : (SemLoc.dma i : SemLoc sig) = .dma i' := congrArg (fun g : GSem nD τ sig => g.2) h
  cases h2; cases h1; rfl

def poolCells : Finset (GSem nD τ sig) := Finset.univ.map ⟨gsem, gsem_inj⟩

def poolToks : Finset (GSem nD τ sig × ℕ × Unit) :=
  Finset.univ.map ⟨fun x : Dev nD × (DmaSem sig × Fin 4) => (gsem (x.1, x.2.1), x.2.2.val, ()), fun x y h => by
    have h1 : (x.1, x.2.1) = (y.1, y.2.1) := gsem_inj (congrArg Prod.fst h)
    have h2 : x.2.2.val = y.2.2.val := congrArg (fun z : GSem nD τ sig × ℕ × Unit => z.2.1) h
    exact Prod.ext (Prod.mk.inj h1).1 (Prod.ext (Prod.mk.inj h1).2 (Fin.ext h2))⟩

/-- What a device's semaphores bring their owner: its positions, and the duties of all rounds. -/
def own0 (c : Dev nD) : sProp 𝕄 :=
  iprop((bigSep Finset.univ fun i : DmaSem sig => atPos ER (gsem (c, i)) 0 ∅ 0)
    ∗ bigSep Finset.univ fun x : DmaSem sig × Fin 4 => dutyTok ER (gsem (c, x.1)) x.2.val ())

/-- The ghost state of all the semaphores, sorted. -/
theorem fund_all : BI.own (ER (initOf poolCells poolToks))
    ⊢ (|==> iprop((bigSep Finset.univ fun ci => roundState ER (sched m) (gsem ci) 0)
        ∗ (bigSep Finset.univ fun ci => reached ER (gsem ci) 0) ∗ bigSep Finset.univ own0) : sProp 𝕄) := by
  have hX (Φ : GSem nD τ sig → sProp 𝕄) : bigSep poolCells Φ = bigSep Finset.univ fun ci => Φ (gsem ci) := by
    unfold poolCells; rw [bigSep_map]; rfl
  have hT : bigSep poolToks (fun x => (dutyTok ER x.1 x.2.1 x.2.2 : sProp 𝕄))
      = bigSep Finset.univ fun c : Dev nD => bigSep Finset.univ fun x : DmaSem sig × Fin 4 =>
          dutyTok ER (gsem (c, x.1)) x.2.val () := by
    unfold poolToks; rw [bigSep_map, bigSep_univ_prod]; rfl
  iintro H
  imod (Rounds.fund ER (sched m) poolCells poolToks) $$ H with ⟨Hst, Hr, Hat, Htok⟩
  imodintro
  ihave Hst := (Entails.of_eq (hX fun g => roundState ER (sched m) g 0)) $$ Hst
  ihave Hr := (Entails.of_eq (hX fun g => reached ER g 0)) $$ Hr
  ihave Hat := (Entails.of_eq ((hX fun g => atPos ER g 0 ∅ 0).trans
    (bigSep_univ_prod fun ci : Dev nD × DmaSem sig => (atPos ER (gsem ci) 0 ∅ 0 : sProp 𝕄)))) $$ Hat
  ihave Htok := (Entails.of_eq hT) $$ Htok
  unfold own0
  rw [bigSep_sep']
  isplitl [Hst]; · iexact Hst
  isplitl [Hr]; · iexact Hr
  isplitl [Hat] <;> iassumption

/-- Every semaphore, at zero, gets its invariant. -/
theorem invs_alloc :
    iprop((bigSep Finset.univ fun ci => semVal (gsem ci) 0) ∗ bigSep Finset.univ fun ci => roundState ER (sched m) (gsem ci) 0)
      ⊢ (|={Set.univ}=> iprop(∃ K : Dev nD × DmaSem sig → ℕ,
          bigSep Finset.univ fun ci => cellInv ER (sched m) (K ci) (gsem ci)) : sProp 𝕄) := by
  rw [← bigSep_sep']
  refine ((bigSep_mono (Ψ := fun ci => iprop(|={Set.univ}=> ∃ κ : ℕ, cellInv ER (sched m) κ (gsem ci))) fun ci _ =>
    (Rounds.body_intro ER (sched m) (gsem ci)).trans inv_alloc).trans (bigSep_fupd _ _)).trans ?_
  exact BI.fupd_mono (BI.bigSep_exists_pi Finset.univ fun (ci : Dev nD × DmaSem sig) (κ : ℕ) => (cellInv ER (sched m) κ (gsem ci) : sProp 𝕄))

/-- The duties that are ever done, cell and round. -/
def done : List (Cell × Fin 4) :=
  sends.map (fun s => (.snd s, 0)) ++ sends.map (fun s => (.rcv s, 0))
    ++ (List.finRange 8).map (fun i => (.inn (slotOf i), ⟨i.val / 2, by omega⟩))
    ++ (List.finRange 8).map (fun i => (.outt (slotOf i), ⟨i.val / 2, by omega⟩))

theorem done_nodup : (done.map fun x => (semOf x.1, x.2)).Nodup := by decide +kernel
theorem cells_nodup : (cells.map semOf).Nodup := by decide +kernel
theorem cells_mem : ∀ i : DmaSem sig, i ∈ cells.map semOf := by decide +kernel

/-- A device's positions and duties, cell by cell. -/
theorem own0_list (c : Dev nD) : (own0 c : sProp 𝕄) ⊢ iprop(all (tokP m c) (cells.map fun k => .pos k 0)
    ∗ all (fun s => dutyTok ER (gcell c (.snd s)) 0 ()) sends
    ∗ all (fun s => dutyTok ER (gcell c (.rcv s)) 0 ()) sends
    ∗ all (tokP m c) ((List.finRange 8).map (fun i => .duty (.inn (slotOf i)) (i.val / 2))
      ++ (List.finRange 8).map (fun i => .duty (.outt (slotOf i)) (i.val / 2)))) := by
  have h1 := all_of_bigSep (fun i : DmaSem sig => (atPos ER (gsem (c, i)) 0 ∅ 0 : sProp 𝕄)) _ cells_nodup Finset.univ
    fun _ _ => Finset.mem_univ _
  have h2 := all_of_bigSep (fun x : DmaSem sig × Fin 4 => (dutyTok ER (gsem (c, x.1)) x.2.val () : sProp 𝕄)) _ done_nodup
    Finset.univ fun _ _ => Finset.mem_univ _
  rw [all_map] at h1 h2
  unfold own0
  refine (both h1 h2).trans ?_
  rw [all_map]
  refine both (Entails.refl _) ?_
  unfold done
  refine ((all_append _ _ _).1.trans (both ((all_append _ _ _).1.trans (both (all_append _ _ _).1 (Entails.refl _))) (Entails.refl _))).trans ?_
  rw [all_map, all_map, all_map, all_map]
  iintro ⟨⟨⟨H1, H2⟩, H3⟩, H4⟩
  isplitl [H1]; · iexact H1
  isplitl [H2]; · iexact H2
  iapply (all_append _ _ _).2
  rw [all_map, all_map]
  isplitl [H3]; · iexact H3
  iexact H4

/-! ## The deal -/

theorem all_sep {α : Type} (P Q : α → sProp 𝕄) (l : List α) :
    iprop(all P l ∗ all Q l) ⊢ all (fun a => iprop(P a ∗ Q a)) l := by
  induction l with
  | nil => show _ ⊢ iprop(emp); iintro -; iempintro
  | cons a l ih =>
    show iprop((P a ∗ all P l) ∗ (Q a ∗ all Q l)) ⊢ iprop((P a ∗ Q a) ∗ all (fun a => iprop(P a ∗ Q a)) l)
    iintro ⟨⟨Hp, Hpl⟩, ⟨Hq, Hql⟩⟩
    isplitl [Hp Hq]
    · isplitl [Hp] <;> iassumption
    iapply ih
    isplitl [Hpl] <;> iassumption

/-- What a device holds of its own before the kernel begins, but what copies it starts and what it receives is
    still its own. -/
def keep : List Tok :=
  cells.map (fun k => .pos k 0)
    ++ ((List.finRange 8).map (fun i => .duty (.inn (slotOf i)) (i.val / 2))
      ++ (List.finRange 8).map (fun i => .duty (.outt (slotOf i)) (i.val / 2)))
    ++ (xsends.map srcTok ++ (List.finRange 8).map Mem.xc ++ (List.finRange 8).map Mem.ownE).map .mem

/-- That, with a half of the own part, which the device keeps throughout. -/
def mine (c : Dev nD) : sProp 𝕄 :=
  iprop(all (tokP m c) keep ∗ ((c.tc : Thread nD τ).loc main_arg0) ↦{fullShare.left} X m c)

/-- What the launch deals a device, but for what every device knows. -/
def dealt (c : Dev nD) : sProp 𝕄 :=
  iprop(all (tokP m c) (sends.map .go) ∗ mine m c)

/-- A device's own pile, in pieces. -/
theorem pile (c : Dev nD) :
    iprop(own0 c ∗ (((c.tc : Thread nD τ).loc main_arg0) ↦{fullShare} X m c)
        ∗ ((c.tc : Thread nD τ).loc main_v1) ↦{fullShare} m ((c.tc : Thread nD τ).loc main_v1))
      ⊢ iprop(mine m c ∗ all (fun s => dutyTok ER (gcell c (.snd s)) 0 ()) sends
        ∗ all (fun s => dutyTok ER (gcell c (.rcv s)) 0 ()) sends
        ∗ all (fun s => iprop(∃ f, ((c.tc : Thread nD τ).loc main_v1) ↦[oSet (inRow c s) (len s)]{fullShare} f)) sends) := by
  iintro ⟨H0, Hx, Hv⟩
  ihave H0 := (own0_list m c) $$ H0
  icases H0 with ⟨Hpos, Hsnd, Hrcv, Hd⟩
  ihave Hx := (pointsTo_share (PosShare.mem_left_op_right fullShare)).1 $$ Hx
  icases Hx with ⟨Hxl, Hx⟩
  ihave Hx := (pointsTo_share (PosShare.mem_left_op_right fullShare.right)).1 $$ Hx
  icases Hx with ⟨Hxc, Hxs⟩
  ihave Hxc := (carve_xc m c) $$ Hxc
  ihave Hxs := (carve_x m c) $$ Hxs
  ihave Hv := (carve_out m c _) $$ Hv
  icases Hv with ⟨Hown, Hin⟩
  isplitl [Hpos Hd Hxc Hxs Hown Hxl]
  · unfold mine
    isplitr [Hxl]
    · unfold keep
      iapply (all_append _ _ _).2
      isplitl [Hpos Hd]
      · iapply (all_append _ _ _).2
        isplitl [Hpos] <;> iassumption
      · iapply (Entails.of_eq (all_map (tokP m c) Tok.mem _).symm)
        iapply (all_append (memP m c) _ _).2
        isplitl [Hxs Hxc]
        · iapply (all_append (memP m c) _ _).2
          isplitl [Hxs] <;> iassumption
        · iexact Hown
    · iexact Hxl
  isplitl [Hsnd]; · iexact Hsnd
  isplitl [Hrcv] <;> iassumption

/-- All the piles, dealt. -/
theorem piles :
    (bigSep Finset.univ fun c : Dev nD => iprop(own0 c ∗ (((c.tc : Thread nD τ).loc main_arg0) ↦{fullShare} X m c)
        ∗ ((c.tc : Thread nD τ).loc main_v1) ↦{fullShare} m ((c.tc : Thread nD τ).loc main_v1)))
      ⊢ bigSep Finset.univ (dealt m) := by
  refine (bigSep_mono fun c _ => pile m c).trans ?_
  have h1 := deal (fun s c => (dutyTok ER (gcell c (.rcv s)) 0 () : sProp 𝕄)) sends
  have h2 := deal (fun s c => (iprop(∃ f, ((c.tc : Thread nD τ).loc main_v1) ↦[oSet (inRow c s) (len s)]{fullShare} f) : sProp 𝕄)) sends
  rw [bigSep_sep', bigSep_sep', bigSep_sep']
  refine (both (Entails.refl _) (both (Entails.refl _) (both h1 h2))).trans ?_
  rw [← bigSep_sep', ← bigSep_sep', ← bigSep_sep']
  refine bigSep_mono fun c _ => ?_
  show iprop(mine m c ∗ all (fun s => (dutyTok ER (gcell c (.snd s)) 0 () : sProp 𝕄)) sends
      ∗ all (fun s => (dutyTok ER (gcell (peer c s) (.rcv s)) 0 () : sProp 𝕄)) sends
      ∗ all (fun s => iprop(∃ f, (((peer c s).tc : Thread nD τ).loc main_v1) ↦[oSet (dRow c s) (len s)]{fullShare} f)) sends)
    ⊢ iprop(all (tokP m c) (sends.map .go) ∗ mine m c)
  iintro ⟨Hk, Hs, Hr, Hv⟩
  isplitr [Hk]
  · iapply (Entails.of_eq (all_map (tokP m c) Tok.go sends).symm)
    iapply (all_sep (fun s => (dutyTok ER (gcell c (.snd s)) 0 () : sProp 𝕄))
      (fun s => iprop(dutyTok ER (gcell (peer c s) (.rcv s)) 0 ()
        ∗ ∃ f, (((peer c s).tc : Thread nD τ).loc main_v1) ↦[oSet (dRow c s) (len s)]{fullShare} f)) sends)
    isplitl [Hs]; · iexact Hs
    iapply (all_sep (fun s => (dutyTok ER (gcell (peer c s) (.rcv s)) 0 () : sProp 𝕄))
      (fun s => iprop(∃ f, (((peer c s).tc : Thread nD τ).loc main_v1) ↦[oSet (dRow c s) (len s)]{fullShare} f)) sends)
    isplitl [Hr] <;> iassumption
  · iexact Hk

/-- What a device begins with, but for the credits and the staging buffer. -/
def start (c : Dev nD) : sProp 𝕄 := iprop((∃ κ, ctx m κ) ∗ dealt m c)

theorem sems_all : (bigSep Finset.univ fun c : Dev nD => bigSep Finset.univ fun i : DmaSem sig => (semVal (gsem (c, i)) 0 : sProp 𝕄))
    = bigSep Finset.univ fun ci => semVal (gsem ci) 0 :=
  (bigSep_univ_prod fun ci : Dev nD × DmaSem sig => (semVal (gsem ci) 0 : sProp 𝕄)).symm

/-- The whole deal. -/
theorem deal_all :
    iprop(BI.own (ER (initOf poolCells poolToks)) ∗ levAts L lv
        ∗ (bigSep Finset.univ fun c : Dev nD => bigSep Finset.univ fun i : DmaSem sig => semVal (gsem (c, i)) 0)
        ∗ bigSep Finset.univ fun c : Dev nD => iprop((((c.tc : Thread nD τ).loc main_arg0) ↦{fullShare} X m c)
            ∗ ((c.tc : Thread nD τ).loc main_v1) ↦{fullShare} m ((c.tc : Thread nD τ).loc main_v1)))
      ⊢ (|={Set.univ}=> bigSep Finset.univ (start m) : sProp 𝕄) := by
  rw [sems_all]
  iintro ⟨Hu, #Hlev, Hsem, Hmem⟩
  imod (fund_all m) $$ Hu with ⟨Hst, #Hr, Ho⟩
  imod (invs_alloc m) $$ [Hsem Hst] with ⟨%K, #HI⟩
  · isplitl [Hsem] <;> iassumption
  imodintro
  ihave Hd := ((Entails.of_eq (bigSep_sep' Finset.univ (own0 (F := F)) _).symm).trans (piles m)) $$ [Ho Hmem]
  · isplitl [Ho] <;> iassumption
  ihave #Hc := (show iprop((bigSep Finset.univ fun ci => cellInv ER (sched m) (K ci) (gsem ci))
      ∗ (bigSep Finset.univ fun ci => reached ER (gsem ci) 0) ∗ levAts L lv) ⊢ iprop(∃ κ, ctx m κ) from by
    iintro H; iexists (fun c i => K (c, i)); unfold ctx; iexact H) $$ [HI Hr Hlev]
  · isplitr; · iexact HI
    isplitr; · iexact Hr
    iexact Hlev
  unfold start
  rw [bigSep_sep']
  isplitr [Hd]
  · iapply (BI.bigSep_intro_persistent (S := Finset.univ) fun (c : Dev nD) _ => (BI.Entails.refl (iprop(∃ κ, ctx m κ) : sProp 𝕄)))
    iexact Hc
  · iexact Hd

/-- The tokens a device begins with: those dealt, the credits, what it knows, and the staging buffer. -/
theorem ini_perm : ini.Perm (sends.map .go ++ (keep ++ (sends.map (fun s => .cred (.rcv s))
    ++ ((List.finRange 2).map (fun p => .reach (.inn p) 0) ++ (List.finRange 2).map (fun p => .reach (.outt p) 0))
    ++ (List.finRange 2).map (fun p => .mem (.slot p))))) := by
  decide +kernel

theorem all_pers {α : Type} (R : sProp 𝕄) [BI.Persistent R] (P : α → sProp 𝕄) (l : List α) (h : ∀ a ∈ l, R ⊢ P a) :
    R ⊢ all P l := by
  induction l with
  | nil => show _ ⊢ iprop(emp); iintro -; iempintro
  | cons a l ih =>
    have h1 := h a (List.mem_cons_self ..)
    have h2 := ih fun b hb => h b (List.mem_cons_of_mem _ hb)
    show _ ⊢ iprop(P a ∗ all P l)
    iintro #H
    isplitr
    · iapply h1; iexact H
    · iapply h2; iexact H

theorem ini_intro (κ : Dev nD → DmaSem sig → ℕ) (c : Dev nD) :
    iprop(ctx m κ ∗ all (tokP m c) (sends.map .go) ∗ all (tokP m c) keep
        ∗ Pipeline.launchCred (fun d => owed d order) c
        ∗ ∃ f, ((c.tc : Thread nD τ).loc cc0_scratch0) ↦{fullShare} f)
      ⊢ all (tokP m c) ini := by
  have hr := all_pers (ctx m κ) (tokP m c) ((List.finRange 2).map (fun p => .reach (.inn p) 0) ++ (List.finRange 2).map (fun p => .reach (.outt p) 0))
    fun a ha => by
      rcases List.mem_append.mp ha with h | h <;> obtain ⟨p, -, rfl⟩ := List.mem_map.mp h
      · exact ctx_reached m κ c (.inn p)
      · exact ctx_reached m κ c (.outt p)
  refine BIBase.Entails.trans ?_ (all_perm _ ini_perm.symm)
  iintro ⟨#Hctx, Hgo, Hk, Hcr, Hs⟩
  ihave Hcr := ((creds c order).trans (all_perm _ order_perm)) $$ Hcr
  ihave Hs := (slots_split m c) $$ Hs
  ihave Hr := hr $$ Hctx
  iapply (all_append _ _ _).2
  isplitl [Hgo]; · iexact Hgo
  iapply (all_append _ _ _).2
  isplitl [Hk]; · iexact Hk
  iapply (all_append _ _ _).2
  isplitl [Hcr Hr]
  · iapply (all_append _ _ _).2
    isplitl [Hcr]
    · iapply (Entails.of_eq (all_map (tokP m c) (fun s => Tok.cred (.rcv s)) sends).symm); iexact Hcr
    · iexact Hr
  · iapply (Entails.of_eq ((all_map (tokP m c) (fun p => Tok.mem (.slot p)) (List.finRange 2)).trans
      (all_map (memP m c) Mem.slot (List.finRange 2)).symm))
    iexact Hs

end Cert.KernelIdeal.K

end
-- ==== Proof.Ideal.Launch.lean ====
/-
  From the launch to the end.

  The kernel's region on one device: it starts from what the deal gives, runs the body, closes every semaphore and
  keeps the pieces of its result. Around it, the launch of the whole machine: the deal needs every device's memory
  at once, since the rows a copy lands in belong to its receiver and the copy is started without asking it.
-/
module

public import proofs.«01_k».proof.Proof.Ideal.Deal
public import proofs.«01_k».proof.Proof.Gen.KernelIdeal.Launch

@[expose] public section

set_option maxRecDepth 10000

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ)

/-! ## The end of the protocol -/

theorem all_upd {α : Type} (R : sProp 𝕄) [BI.Persistent R] (P P' : α → sProp 𝕄) (l : List α)
    (h : ∀ a, iprop(R ∗ P a) ⊢ (|={Set.univ}=> P' a)) : iprop(R ∗ all P l) ⊢ (|={Set.univ}=> all P' l) := by
  induction l with
  | nil => show _ ⊢ (|={Set.univ}=> iprop(emp)); iintro -; imodintro; iempintro
  | cons a l ih =>
    have ha := h a
    show iprop(R ∗ P a ∗ all P l) ⊢ (|={Set.univ}=> iprop(P' a ∗ all P' l))
    iintro ⟨#HR, Ha, Hl⟩
    imod ha $$ [Ha] with Ha
    · isplitr; · iexact HR
      iexact Ha
    imod ih $$ [Hl] with Hl
    · isplitr; · iexact HR
      iexact Hl
    imodintro
    isplitl [Ha] <;> iassumption

/-- The kernel's own semaphores. -/
def osem (i : DmaSem sig) : SemLoc sig := .dma i

theorem ownSemFacts : Pipeline.OwnSemFacts cfg0.spec osem where
  isScoped k := by revert k; decide +kernel
  inj _ _ h := by cases h; rfl
  disj _ w _ := w.elim0

/-- When all its rounds are over, every semaphore is back at zero. -/
theorem close_all (κ : Dev nD → DmaSem sig → ℕ) (c : Dev nD) :
    iprop(ctx m κ ∗ all (tokP m c) (cells.map fun k => .pos k (rounds k)))
      ⊢ (|={Set.univ}=> Pipeline.ownSems0 osem c : sProp 𝕄) := by
  rw [all_map]
  have h := all_upd (ctx m κ) (fun k => tokP m c (.pos k (rounds k))) (fun k => (semVal (gcell c k) 0 : sProp 𝕄)) cells
    fun k => by
      have hi := ctx_inv m κ c k
      show iprop(ctx m κ ∗ atPos ER (gcell c k) (rounds k) ∅ 0) ⊢ _
      iintro ⟨#HC, Hat⟩
      ihave HI := hi $$ HC
      imod (Rounds.cell_close ER (sched m) (Set.mem_univ (κ c (semOf k))) (fun h => h) (R := rounds k)
        (fun r hr => duties_end m c k r hr)) $$ [HI Hat] with Hz
      · isplitl [HI] <;> iassumption
      imodintro
      iexact Hz
  have h2 := bigSep_of_all (fun i : DmaSem sig => (semVal ((c.tc : Thread nD τ), osem i) 0 : sProp 𝕄)) (cells.map semOf)
    Finset.univ fun i _ => cells_mem i
  rw [all_map] at h2
  exact h.trans (BI.fupd_mono h2)

/-! ## The region -/

/-- What the region begins with on a device. -/
def Φ₀ (c : Dev nD) : sProp 𝕄 := iprop(∃ κ, ctx m κ ∗ all (tokP m c) ini)

/-- What it ends with. -/
def Φ₁ (c : Dev nD) : sProp 𝕄 :=
  iprop(all (memP m c) finOut ∗ Pipeline.ownSems0 osem c ∗ all (memP m c) ((List.finRange 2).map .slot))

/-- The region's data: no window, the invariant before and after, and what is owed before. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c order
    | ⟨_ + 1, _⟩ => 0

/-- A device's number is its own. -/
theorem ask (c : Dev nD) (k : Dev nD → KProg F) (Q : PUnit → sProp 𝕄) :
    wp frame (wpE (defs₀ (F := F)) 𝒱₀ (c : Thread nD τ) none) Set.univ (k c) Q
      ⊢ wp frame (wpE (defs₀ (F := F)) 𝒱₀ (c : Thread nD τ) none) Set.univ (.op .deviceId k) Q :=
  Entails.of_eq (wp_deviceId 𝒱₀ (c : Thread nD τ) none Set.univ).symm

theorem region (c : Dev nD) (Q : PUnit → sProp 𝕄) :
    iprop(Φ₀ m c ∗ debt c order)
      ⊢ iprop(((Φ₁ m c ∗ debt c []) -∗ Q ⟨⟩)
          -∗ wp frame (wpE (defs₀ (F := F)) 𝒱₀ (c : Thread nD τ) none) Set.univ (.op .deviceId fun c => runAll c cmds) Q) := by
  unfold Φ₀ Φ₁
  iintro ⟨⟨%κ, #HC, Hh⟩, Hd⟩ Hk
  iapply (wp_fupd frame (wpE (defs₀ (F := F)) 𝒱₀ (c : Thread nD τ) none) Set.univ)
  iapply (ask c (fun c => runAll c cmds) _)
  iapply (run m κ c _) $$ [Hh Hd]
  · isplitr; · iexact HC
    isplitl [Hh] <;> iassumption
  iintro ⟨Hf, Hd⟩
  unfold fin
  ihave Hf := (all_append (tokP m c) _ _).1 $$ Hf
  icases Hf with ⟨Hf, Ho⟩
  ihave Hf := (all_append (tokP m c) _ _).1 $$ Hf
  icases Hf with ⟨Hp, Hs⟩
  imod (close_all m κ c) $$ [Hp] with Hz
  · isplitr; · iexact HC
    iexact Hp
  imodintro
  iapply Hk
  isplitr [Hd]
  · isplitl [Ho]
    · iapply (Entails.of_eq (all_map (tokP m c) Tok.mem finOut)); iexact Ho
    isplitl [Hz]; · iexact Hz
    iapply (Entails.of_eq ((all_map (tokP m c) (fun p => Tok.mem (.slot p)) (List.finRange 2)).trans
      (all_map (memP m c) Mem.slot (List.finRange 2)).symm)); iexact Hs
  · iexact Hd

/-- There is no window. -/
theorem no_window (Φ : Fin cfg0.W → sProp 𝕄) : bigSep Finset.univ Φ = iprop(emp) := by
  haveI : IsEmpty (Fin cfg0.W) := inferInstanceAs (IsEmpty (Fin 0))
  rw [Finset.univ_eq_empty, BI.bigSep_empty]; rfl

theorem owes_before (c : Dev nD) : (dats m 0 c).owesAt () 0 ⊢ debt c order := by
  unfold Dat.owesAt Pipeline.owesWithin debt
  iintro ⟨%W, -, H⟩
  iexists W; iexact H

theorem owes_after (c : Dev nD) : debt c [] ⊢ (dats m 0 c).owesAt () (Fin.last cfg0.N) := by
  unfold Dat.owesAt Pipeline.owesWithin debt
  iintro ⟨%W, H⟩
  iexists W
  isplitr; · ipureintro; exact Set.subset_union_of_subset_left (Set.subset_univ _) _
  iexact H

theorem body_obligation (c : Dev nD) : Pipeline.BodyObligation (dats m 0 c) (defs₀ (F := F)) 𝒱₀ () Set.univ := fun t => by
  rw [show t = t0_0 from fin_N0 t]
  simp only [no_window]
  have h0 := owes_before m c
  have h1 := owes_after m c
  show iprop(Φ₀ m c ∗ (dats m 0 c).owesAt () 0 ∗ emp)
    ⊢ wp frame (wpE (defs₀ (F := F)) 𝒱₀ (c : Thread nD τ) none) Set.univ (bodyAt0 (F := F) t0_0)
        (fun _ => iprop(Φ₁ m c ∗ (dats m 0 c).owesAt () (Fin.last cfg0.N) ∗ emp))
  rw [body_eq]
  iintro ⟨HΦ, HO, -⟩
  ihave HO := h0 $$ HO
  iapply (region m c _) $$ [HΦ HO]
  · isplitl [HΦ] <;> iassumption
  iintro ⟨HΦ, HO⟩
  isplitl [HΦ]; · iexact HΦ
  isplitl [HO]; · iapply h1; iexact HO
  iempintro

/-! ## The end's memory -/

/-- Pieces of memory, read. -/
theorem all_read {α : Type} (R : sProp 𝕄) (P : α → sProp 𝕄) (φ : α → Prop) (l : List α)
    (h : ∀ a, iprop(P a ∗ R) ⊢ (⌜φ a⌝ : sProp 𝕄)) : iprop(all P l ∗ R) ⊢ (⌜∀ a ∈ l, φ a⌝ : sProp 𝕄) := by
  induction l with
  | nil => iintro -; ipureintro; intro a ha; exact absurd ha (by simp)
  | cons a l ih =>
    have ha := (h a).trans BI.Laws.persistently_pure.2
    have il := ih.trans BI.Laws.persistently_pure.2
    show iprop((P a ∗ all P l) ∗ R) ⊢ _
    iintro ⟨⟨Ha, Hl⟩, HR⟩
    ihave %h1 := ha $$ [Ha HR]
    · isplitl [Ha] <;> iassumption
    ihave %h2 := il $$ [Hl HR]
    · isplitl [Hl] <;> iassumption
    ipureintro
    intro b hb
    rcases List.mem_cons.mp hb with rfl | hb
    · exact h1
    · exact h2 b hb

end Cert.KernelIdeal.K

end
-- ==== Proof.Ideal.Whole.lean ====
/-
  The whole machine's run.

  From a memory with every semaphore at zero, every run ends, and at its end each device's result holds what `G`
  says, its own part is as it was, and every semaphore is at zero. The result is read off piece by piece: the
  pieces a device ends with cover it.
-/
module

public import proofs.«01_k».proof.Proof.Ideal.Launch

@[expose] public section

set_option maxRecDepth 10000

noncomputable section

namespace Cert.KernelIdeal.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

local notation "𝕄" => MT nD τ sig Unit (Elt F) ℕ UU ℕ

variable (m : (ℓ : Loc nD τ sig) → Buf (Elt F) ℓ)

/-! ## The pieces cover the result -/

/-- What a piece of a result says of the memory. -/
def Says (c : Dev nD) (s : MemSt nD τ sig (Elt F)) : Mem → Prop
  | .out q l n _ => ∀ j ∈ oSet (far c + 8192 * qi c q + l) n, s.mem ((c.tc : Thread nD τ).loc main_v1) j = G m c j
  | .own i => ∀ j ∈ oSet (near c + 4096 * i.val) 4096, s.mem ((c.tc : Thread nD τ).loc main_v1) j = G m c j
  | _ => True

theorem says_of (c : Dev nD) (s : Phys nD τ sig (Elt F)) (a : Mem) :
    iprop(memP m c a ∗ SI s) ⊢ (⌜Says m c s.mem a⌝ : sProp 𝕄) := by
  cases a with
  | out q l n h => exact BI.Laws.sep_comm.1.trans SI_pointsTo_agree
  | own i => exact BI.Laws.sep_comm.1.trans SI_pointsTo_agree
  | _ => iintro -; ipureintro; trivial

/-- The rows of a quarter that a piece is. -/
def piece (q : Qt) : Mem → Option (Nat × Nat)
  | .out q' l n _ => if q' = q then some (l, n) else none
  | _ => none

/-- Pieces, each beginning no later than where those before it end, from `a` to `b`. -/
def tiles (b : Nat) : Nat → List (Nat × Nat) → Bool
  | a, [] => decide (b ≤ a)
  | a, (l, n) :: t => decide (l ≤ a) && tiles b (l + n) t

theorem tiles_mem (b : Nat) (t : List (Nat × Nat)) (a : Nat) (h : tiles b a t = true) (x : Nat) (ha : a ≤ x) (hb : x < b) :
    ∃ p ∈ t, p.1 ≤ x ∧ x < p.1 + p.2 := by
  induction t generalizing a with
  | nil => have := of_decide_eq_true h; omega
  | cons p t ih =>
    have h' : decide (p.1 ≤ a) = true ∧ tiles b (p.1 + p.2) t = true := by
      rw [← Bool.and_eq_true]; exact h
    have h1 := of_decide_eq_true h'.1
    by_cases hx : x < p.1 + p.2
    · exact ⟨p, List.mem_cons_self .., by omega, hx⟩
    · obtain ⟨p', hp, e⟩ := ih _ h'.2 (by omega)
      exact ⟨p', List.mem_cons_of_mem _ hp, e⟩

theorem tiled (q : Qt) : tiles 8192 0 (finOut.filterMap (piece q)) = true := by cases q <;> decide +kernel

/-- Every row of a quarter lies in a piece of it. -/
theorem in_piece (q : Qt) (l : Nat) (hl : l < 8192) :
    ∃ l' n h, Mem.out q l' n h ∈ finOut ∧ l' ≤ l ∧ l < l' + n := by
  obtain ⟨p, hp, h1, h2⟩ := tiles_mem _ _ _ (tiled q) l (Nat.zero_le _) hl
  obtain ⟨a, ha, e⟩ := List.mem_filterMap.mp hp
  cases a with
  | out q' l' n h =>
    by_cases hq : q' = q
    · subst hq
      have e' : (l', n) = p := by simpa [piece] using e
      subst e'
      exact ⟨l', n, h, ha, h1, h2⟩
    · simp [piece, hq] at e
  | _ => simp [piece] at e

theorem own_mem (i : Fin 8) : Mem.own i ∈ finOut := by revert i; decide +kernel

/-- All pieces together say what the whole result holds. -/
theorem says_all (c : Dev nD) (s : MemSt nD τ sig (Elt F)) (h : ∀ a ∈ finOut, Says m c s a) :
    s.mem ((c.tc : Thread nD τ).loc main_v1) = G m c := by
  funext j
  have hj : ((show S65536x1024.Idx from j) 0).val < 65536 := ((show S65536x1024.Idx from j) 0).isLt
  have hc := half_lt c
  generalize hr : ((show S65536x1024.Idx from j) 0).val = r at hj
  by_cases hn : near c ≤ r ∧ r < near c + 32768
  · have hi : (r - near c) / 4096 < 8 := by omega
    refine h _ (own_mem ⟨(r - near c) / 4096, hi⟩) j (mem_oSet.mpr ?_)
    rw [hr]
    show near c + 4096 * ((r - near c) / 4096) ≤ r ∧ r < near c + 4096 * ((r - near c) / 4096) + 4096
    omega
  · have hf : far c ≤ r ∧ r < far c + 32768 := by unfold near at hn; unfold far; omega
    obtain ⟨q, hq⟩ := qi_surj c ((r - far c) / 8192) (by omega)
    obtain ⟨l', n, sh, ha, h1, h2⟩ := in_piece q ((r - far c) % 8192) (by omega)
    refine h _ ha j (mem_oSet.mpr ?_)
    rw [hr, hq]
    omega

/-! ## The launch -/

abbrev adm : (p : Fin 1) → (pcfgs (F := F) p).Adm := fun p => (cfgs p).toPCfg_adm

/-- The region's data, for the one region there is. -/
def pdats : (p : Fin 1) → (c : Dev nD) → Dat τ (Elt F) Unit ℕ UU ℕ (Pipeline.pin (pcfgs (F := F)) adm p) c
  | 0 => dats m 0

/-- What the machine leaves a device, but for the deal. -/
def kept (c : Dev nD) : sProp 𝕄 :=
  iprop(scopedBufs (c.tc : Thread nD τ) ∗ Pipeline.cellsSems0 (Pipeline.pin (pcfgs (F := F)) adm) 0 c
    ∗ Pipeline.idleSems0 (Pipeline.pin (pcfgs (F := F)) adm) cellOf_inj 0 ownSemFacts c
    ∗ owes (c.tc : Thread nD τ) (owed c order) ∅ ∗ Pipeline.launchCred (fun d => owed d order) c)

/-- The launch's own tokens of a device. -/
def ghost (c : Dev nD) : sProp 𝕄 :=
  iprop(Pipeline.cellsGhost (Pipeline.pin (pcfgs (F := F)) adm) EP 0 c ∗ Pipeline.toksInit (Pipeline.pin (pcfgs (F := F)) adm) EP 0 c)

/-- What each device begins with. -/
def begins (c : Dev nD) : sProp 𝕄 := iprop(kept c ∗ ghost c ∗ start m c)

/-- What each device ends with. -/
def ends (c : Dev nD) : sProp 𝕄 :=
  iprop(all (memP m c) finOut ∗ (((c.tc : Thread nD τ).loc main_arg0) ↦{fullShare.left} X m c)
    ∗ scopedSems0 (c.tc : Thread nD τ))

/-- The final memory, as far as one device's goes. -/
def Ends (c : Dev nD) (s : MemSt nD τ sig (Elt F)) : Prop :=
  (s.mem ((c.tc : Thread nD τ).loc main_v1) = G m c ∧ s.mem ((c.tc : Thread nD τ).loc main_arg0) = X m c)
    ∧ ∀ sm : SemLoc sig, sm.isScoped .tc = true → s.sem ((c.tc : Thread nD τ), sm) = 0

/-- What a device ends with, against the machine's state. -/
theorem read_end (c : Dev nD) (s : Phys nD τ sig (Elt F)) :
    iprop(ends m c ∗ SI s) ⊢ (|={Set.univ}=> iprop(⌜Ends m c s.mem⌝ ∗ SI s) : sProp 𝕄) := by
  have h1 := (all_read (SI s) (memP m c) (Says m c s.mem) finOut (says_of m c s)).trans BI.Laws.persistently_pure.2
  have h2 : iprop((((c.tc : Thread nD τ).loc main_arg0) ↦{fullShare.left} X m c) ∗ SI s) ⊢ (_ : sProp 𝕄) :=
    (BI.Laws.sep_comm.1.trans SI_pointsTo_agree).trans BI.Laws.persistently_pure.2
  unfold ends
  iintro ⟨⟨Hm, Hx, Hs⟩, HSI⟩
  ihave %hz := (tcScoped_read_pers c s) $$ [Hs HSI]
  · isplitl [Hs] <;> iassumption
  ihave %hm := h1 $$ [Hm HSI]
  · isplitl [Hm] <;> iassumption
  ihave %hx := h2 $$ [Hx HSI]
  · isplitl [Hx] <;> iassumption
  imodintro
  isplitr
  · ipureintro
    exact ⟨⟨says_all m c s.mem hm, funext fun j => hx j (Finset.mem_univ j)⟩, hz⟩
  · iexact HSI

variable (ρ : Dev nD → PrngReg)

/-- What the machine hands a device at launch, sorted: what it keeps, and what goes into the deal. -/
theorem core_split (c : Dev nD) :
    coreInit (Ix := Unit) (Name := ℕ) (U := UU) (Lvl := ℕ) (Pipeline.owing fun d => owed d order) 0
        (⟨m, fun _ => 0, ρ⟩ : MemSt nD τ sig (Elt F)) (c.tc : Thread nD τ)
      ⊢ iprop(kept c ∗ (bigSep Finset.univ fun i : DmaSem sig => semVal (gsem (c, i)) 0)
        ∗ ((((c.tc : Thread nD τ).loc main_arg0) ↦{fullShare} X m c)
            ∗ ((c.tc : Thread nD τ).loc main_v1) ↦{fullShare} m ((c.tc : Thread nD τ).loc main_v1))
        ∗ levels0 c : sProp 𝕄) := by
  have hs := Pipeline.scopedSems0_split (Ix := Unit) (Val := Elt F) (Name := ℕ) (U := UU) (Lvl := ℕ)
    (Pipeline.pin (pcfgs (F := F)) adm) cellOf_inj 0 winFacts0.to₀ ownSemFacts c
  have hu := (Pipeline.unscopedBufs_split (Ix := Unit) (Name := ℕ) (U := UU) (Lvl := ℕ)
    (Pipeline.pin (pcfgs (F := F)) adm) 0 winFacts0.arr_unscoped winFacts0.arr_inj c (fun b => m ((c.tc : Thread nD τ).loc b)))
  have hr := unscopedRest0_eq (Ix := Unit) (Name := ℕ) (U := UU) (Lvl := ℕ) c (fun b => m ((c.tc : Thread nD τ).loc b))
  have ho : Pipeline.ownSems0 osem c ⊢ (bigSep Finset.univ fun i : DmaSem sig => semVal (gsem (c, i)) 0 : sProp 𝕄) := Entails.refl _
  refine (Pipeline.coreInit_boundary_owing (fun d => owed d order) m ρ c).trans ?_
  unfold boundary kept
  rw [hs, hu]
  iintro ⟨⟨Hsc, ⟨⟨Hcells, Hos⟩, Hidle⟩, -⟩, ⟨-, Hub⟩, -, HO, Hlv, -, Hcr⟩
  ihave Hub := (Entails.of_eq hr) $$ Hub
  isplitl [Hsc Hcells Hidle HO Hcr]
  · isplitl [Hsc]; · iexact Hsc
    isplitl [Hcells]; · iexact Hcells
    isplitl [Hidle]; · iexact Hidle
    isplitl [HO] <;> iassumption
  isplitl [Hos]; · iapply ho; iexact Hos
  isplitl [Hub]; · iexact Hub
  iexact Hlv

/-- The levels, assigned once for the whole machine. -/
theorem levels_all : (bigSep Finset.univ fun c : Dev nD => levels0 c) ⊢ (|==> levAts L lv : sProp 𝕄) := by
  have hz (d : Dev nD) (p : Proc τ) (hp : p ≠ .tc) : (coreLevAts ((d, p) : Thread nD τ) L lv : sProp 𝕄) = BI.emp := by
    unfold coreLevAts
    refine (bigSep_congr fun sm _ => ?_).trans (BI.bigSep_emp_const _)
    rw [L_ne _ hp, BI.bigSep_empty]
  have hsc : (bigSep Finset.univ fun d : Dev nD => bigSep (Finset.univ.erase Proc.tc) fun p => (coreLevAts ((d, p) : Thread nD τ) L lv : sProp 𝕄)) = BI.emp :=
    (bigSep_congr fun d _ => (bigSep_congr fun p hp => hz d p (Finset.ne_of_mem_erase hp)).trans (BI.bigSep_emp_const _)).trans
      (BI.bigSep_emp_const _)
  have he : (levAts L lv : sProp 𝕄) = iprop((bigSep Finset.univ fun d : Dev nD => coreLevAts d.tc L lv) ∗ BI.emp) := by
    rw [← hsc, ← bigSep_threads fun c : Thread nD τ => (coreLevAts c L lv : sProp 𝕄)]
    exact bigSep_univ_prod fun g : GSem nD τ sig => bigSep (L g) fun ι => levAt g ι (lv g ι)
  rw [he]
  refine (bigSep_mono fun c _ => lev_assign_cells (c.tc : Thread nD τ) L lv).trans ((BI.bigSep_bupd _ _).trans (BI.bupd_mono ?_))
  rw [bigSep_sep']
  have hd (A B : sProp 𝕄) : iprop(A ∗ B) ⊢ iprop(B ∗ emp) := by
    iintro ⟨-, H⟩
    isplitl [H]; · iexact H
    iempintro
  exact hd _ _

/-- The launch's own tokens, device by device. -/
theorem ghosts :
    BI.own (EP (initOf (Pipeline.cells (Pipeline.pin (pcfgs (F := F)) adm) cellOf_inj)
        (Pipeline.launchToks (Pipeline.pin (pcfgs (F := F)) adm) cellOf_inj)))
      ⊢ (|={Set.univ}=> bigSep Finset.univ ghost : sProp 𝕄) := by
  have hpick (Φ : Fin 1 → Dev nD → sProp 𝕄) :
      (bigSep Finset.univ fun c : Dev nD => bigSep Finset.univ fun p => Φ p c) ⊢ bigSep Finset.univ fun c : Dev nD => Φ 0 c :=
    bigSep_mono fun c _ => BI.bigSep_elim (Finset.mem_univ 0)
  unfold ghost
  rw [bigSep_sep']
  iintro HP
  imod (Pipeline.fund_ghost (Pipeline.pin (pcfgs (F := F)) adm) EP cellOf_inj) $$ HP with ⟨Hg, Ht⟩
  imodintro
  isplitl [Hg]
  · iapply (hpick fun p c => Pipeline.cellsGhost (Pipeline.pin (pcfgs (F := F)) adm) EP p c); iexact Hg
  · iapply (hpick fun p c => Pipeline.toksInit (Pipeline.pin (pcfgs (F := F)) adm) EP p c); iexact Ht

/-- From the machine at launch to what every device begins with. -/
theorem launch_all :
    iprop((bigSep Finset.univ fun c : Dev nD =>
          coreInit (Ix := Unit) (Name := ℕ) (U := UU) (Lvl := ℕ) (Pipeline.owing fun d => owed d order) 0
            (⟨m, fun _ => 0, ρ⟩ : MemSt nD τ sig (Elt F)) (c.tc : Thread nD τ))
        ∗ ownU ((initOf (Pipeline.cells (Pipeline.pin (pcfgs (F := F)) adm) cellOf_inj)
            (Pipeline.launchToks (Pipeline.pin (pcfgs (F := F)) adm) cellOf_inj), initOf poolCells poolToks) : UU))
      ⊢ (|={Set.univ}=> iprop(∃ _ : Unit, bigSep Finset.univ (begins m) ∗ emp) : sProp 𝕄) := by
  have hg := ghosts (F := F)
  have hc : (bigSep Finset.univ fun c : Dev nD =>
      coreInit (Ix := Unit) (Name := ℕ) (U := UU) (Lvl := ℕ) (Pipeline.owing fun d => owed d order) 0
        (⟨m, fun _ => 0, ρ⟩ : MemSt nD τ sig (Elt F)) (c.tc : Thread nD τ)) ⊢ _ := bigSep_mono fun c _ => core_split m ρ c
  refine (both hc (Entails.refl _)).trans ?_
  rw [bigSep_sep', bigSep_sep', bigSep_sep']
  iintro ⟨⟨Hk, Hos, Hmem, Hlv⟩, Hu⟩
  ihave H := (ownU_pair _ _) $$ Hu
  icases H with ⟨HP, HR⟩
  imod levels_all $$ Hlv with Hlev
  imod hg $$ HP with Hg
  imod (deal_all m) $$ [HR Hlev Hos Hmem] with Hst
  · isplitl [HR]; · iexact HR
    isplitl [Hlev]; · iexact Hlev
    isplitl [Hos] <;> iassumption
  imodintro
  iexists ()
  isplitl
  · unfold begins
    rw [bigSep_sep', bigSep_sep']
    isplitl [Hk]; · iexact Hk
    isplitl [Hg] <;> iassumption
  · iempintro

/-! ## A device's run -/

/-- What the region takes from the deal. -/
def into (c : Dev nD) : sProp 𝕄 :=
  iprop((∃ κ, ctx m κ) ∗ all (tokP m c) (sends.map .go) ∗ all (tokP m c) keep
    ∗ Pipeline.launchCred (fun d => owed d order) c)

theorem into_start (c : Dev nD) :
    iprop(into m c ∗ Pipeline.prefHeld (pcfgs (F := F) 0).pre c (fun _ => fullShare.right) (adm (F := F) 0).1
        ∗ Pipeline.scopedRest cfg0.spec c)
      ⊢ Φ₀ m c := by
  have hr := Entails.of_eq (scopedRest0_eq (Ix := Unit) (Val := Elt F) (Name := ℕ) (U := UU) (Lvl := ℕ) c)
  unfold into Φ₀
  iintro ⟨⟨⟨%κ, #HC⟩, Hg, Hk, Hcr⟩, -, Hr⟩
  ihave Hr := hr $$ Hr
  iexists κ
  isplitr; · iexact HC
  iapply (ini_intro m κ c)
  isplitr; · iexact HC
  isplitl [Hg]; · iexact Hg
  isplitl [Hk]; · iexact Hk
  isplitl [Hcr] <;> iassumption

theorem end_out (c : Dev nD) :
    iprop(Φ₁ m c ∗ Pipeline.cellsSems0 (Pipeline.pin (pcfgs (F := F)) adm) 0 c
        ∗ Dat.staging (Pipeline.pin (pcfgs (F := F)) adm 0) c
        ∗ Pipeline.idleSems0 (Pipeline.pin (pcfgs (F := F)) adm) cellOf_inj 0 ownSemFacts c)
      ⊢ iprop(all (memP m c) finOut ∗ scopedSems0 (c.tc : Thread nD τ) ∗ scopedBufs (c.tc : Thread nD τ)) := by
  have hs := Pipeline.scopedSems0_split (Ix := Unit) (Val := Elt F) (Name := ℕ) (U := UU) (Lvl := ℕ)
    (Pipeline.pin (pcfgs (F := F)) adm) cellOf_inj 0 winFacts0.to₀ ownSemFacts c
  have hb := Pipeline.scopedBufs_split (τ := τ) (Ix := Unit) (Val := Elt F) (Name := ℕ) (U := UU) (Lvl := ℕ)
    (Pipeline.pin (pcfgs (F := F)) adm) 0 winFacts0.stage_scoped winFacts0.stage_inj stage_whole0 c
  have hr := Entails.of_eq (scopedRest0_eq (Ix := Unit) (Val := Elt F) (Name := ℕ) (U := UU) (Lvl := ℕ) c).symm
  have hj := slots_join m c
  rw [hs, hb]
  unfold Φ₁
  iintro ⟨⟨Ho, Hos, Hsl⟩, Hcells, Hst, Hidle⟩
  ihave Hsl := hj $$ Hsl
  ihave Hsl := hr $$ Hsl
  isplitl [Ho]; · iexact Ho
  isplitl [Hcells Hos Hidle]
  · isplitl [Hcells Hos]
    · isplitl [Hcells] <;> iassumption
    · iexact Hidle
  isplitl [Hst] <;> iassumption

/-- The region's rule, at this region. -/
theorem enter (c : Dev nD) (κ : GSem nD τ sig → ℕ) (Q : PUnit → sProp 𝕄) :
    iprop(Pipeline.EntryPre (Pipeline.pin (pcfgs (F := F)) adm) (pdats m) () EP κ 0 c
        ∗ Pipeline.prefHeld (pcfgs (F := F) 0).pre c (fun _ => fullShare.right) (adm (F := F) 0).1
        ∗ into m c ∗ Pipeline.idleSems0 (Pipeline.pin (pcfgs (F := F)) adm) cellOf_inj 0 ownSemFacts c
        ∗ scopedBufs (c.tc : Thread nD τ))
      ⊢ iprop(((Pipeline.EntryPost (Pipeline.pin (pcfgs (F := F)) adm) (pdats m) () 0 c ∗ all (memP m c) finOut
              ∗ scopedSems0 (c.tc : Thread nD τ) ∗ scopedBufs (c.tc : Thread nD τ))
            -∗ wp frame (wpE (defs (F := F)) (Variants.lift 𝒱₀) (c.tc : Thread nD τ) none) Set.univ (.ret ⟨⟩) Q)
          -∗ wp frame (wpE (defs (F := F)) (Variants.lift 𝒱₀) (c.tc : Thread nD τ) none) Set.univ (main (F := F) c) Q) := by
  have hb := Entails.of_eq (Pipeline.scopedBufs_split (τ := τ) (Ix := Unit) (Val := Elt F) (Name := ℕ) (U := UU) (Lvl := ℕ)
    (Pipeline.pin (pcfgs (F := F)) adm) 0 winFacts0.stage_scoped winFacts0.stage_inj stage_whole0 c)
  have hm : main (F := F) c = .op (.customCall (Pipeline.entry 0) ()) fun _ => .ret ⟨⟩ := rfl
  have hbody : Pipeline.BodyObligationLoose (pdats m 0 c) (defs₀ (F := F)) 𝒱₀ () Set.univ := (body_obligation m c).loose
  have hin : iprop(into m c ∗ Pipeline.prefHeld (pcfgs (F := F) 0).pre c (fun _ => fullShare.right) (adm (F := F) 0).1
        ∗ Pipeline.scopedRest cfg0.spec c) ⊢ (pdats m 0 c).Φ 0 := into_start m c
  have hout : iprop((pdats m 0 c).Φ (Fin.last (Pipeline.pin (pcfgs (F := F)) adm 0).N) ∗ Pipeline.cellsSems0 (Pipeline.pin (pcfgs (F := F)) adm) 0 c
        ∗ Dat.staging (Pipeline.pin (pcfgs (F := F)) adm 0) c
        ∗ Pipeline.idleSems0 (Pipeline.pin (pcfgs (F := F)) adm) cellOf_inj 0 ownSemFacts c)
      ⊢ iprop(all (memP m c) finOut ∗ scopedSems0 (c.tc : Thread nD τ) ∗ scopedBufs (c.tc : Thread nD τ)) := end_out m c
  rw [hm]
  exact Pipeline.wp_customCall_entry_frame (pcfgs (F := F)) adm (pdats m) () EP κ cellOf_inj 0 defs₀ 𝒱₀ (fun _ => fullShare.right) c
    Set.univ (fun _ _ => Set.mem_univ _) hbody (fun w => w.elim0) none (fun u h => nomatch h) hb hin hout

/-- After the region a device owes nothing. -/
theorem entry_post (c : Dev nD) :
    Pipeline.EntryPost (Pipeline.pin (pcfgs (F := F)) adm) (pdats m) () 0 c
      ⊢ (iprop(∃ W, owes (c.tc : Thread nD τ) 0 W) : sProp 𝕄) := by
  unfold Pipeline.EntryPost Pipeline.PerCore.EntryPost Dat.owesAt Pipeline.owesWithin
  iintro ⟨-, ⟨%W, -, HW⟩⟩
  iexists W; iexact HW

/-- A device's whole run. -/
theorem core_run (c : Dev nD) :
    begins m c ⊢ wp frame (wpE (defs (F := F)) (Variants.lift 𝒱₀) (c.tc : Thread nD τ) none) Set.univ (main (F := F) c)
      (fun _ => Idealize.ShloMosaic.post (liftTc (ends m) BI.emp) (c.tc : Thread nD τ)) := by
  have ha : (emp : sProp 𝕄) ⊢ (pdats m 0 c).arrays (pdats m 0 c).A := Entails.of_eq (no_window _).symm
  have hw : (emp : sProp 𝕄) ⊢ Pipeline.cellsWaits (Pipeline.pin (pcfgs (F := F)) adm) (pdats m) () 0 c := Entails.of_eq (no_window _).symm
  have hp : (emp : sProp 𝕄) ⊢ Pipeline.prefHeld (pcfgs (F := F) 0).pre c (fun _ => fullShare.right) (adm (F := F) 0).1 :=
    Entails.of_eq (no_window _).symm
  have hi := Pipeline.cellsInit_alloc (Pipeline.pin (pcfgs (F := F)) adm) (pdats m) EP cellOf_inj 0 c (Es := Set.univ)
  unfold begins kept ghost start dealt mine
  iintro ⟨⟨Hsc, Hcells, Hidle, HO, Hcr⟩, ⟨Hg, Ht⟩, HC, Hgo, Hk, Hx⟩
  iapply (fupd_wp frame (wpE (defs (F := F)) (Variants.lift 𝒱₀) (c.tc : Thread nD τ) none) Set.univ _ _)
  imod hi $$ [Hcells Hg] with ⟨%κ, -, Hinit⟩
  · isplitl [Hcells] <;> iassumption
  imodintro
  iapply (enter m c κ (fun _ => Idealize.ShloMosaic.post (liftTc (ends m) BI.emp) (c.tc : Thread nD τ))) $$ [HO Hinit Ht HC Hgo Hk Hcr Hidle Hsc]
  · isplitl [HO Hinit Ht]
    · unfold Pipeline.EntryPre Pipeline.PerCore.EntryPre
      isplitr [HO Hinit Ht]; · iapply ha; iempintro
      isplitl [HO]
      · unfold Dat.owesAt Pipeline.owesWithin
        iexists ∅; isplitr; · ipureintro; rw [Finset.coe_empty]; exact Set.empty_subset _
        iexact HO
      isplitr [Hinit Ht]; · iapply hw; iempintro
      isplitl [Hinit] <;> iassumption
    isplitr [HC Hgo Hk Hcr Hidle Hsc]; · iapply hp; iempintro
    isplitl [HC Hgo Hk Hcr]
    · unfold into
      isplitl [HC]; · iexact HC
      isplitl [Hgo]; · iexact Hgo
      isplitl [Hk] <;> iassumption
    isplitl [Hidle] <;> iassumption
  iintro ⟨Hpost, HY, Hs, -⟩
  rw [wp_ret]; imodintro
  unfold Idealize.ShloMosaic.post; simp only [liftTc_tc, ends]
  ihave Hpost := (entry_post m c) $$ Hpost
  icases Hpost with ⟨%W, HW⟩
  isplitr [HW]
  · isplitl [HY]; · iexact HY
    isplitl [Hx] <;> iassumption
  · iexists W; iexact HW

/-- Every run of the machine ends with each device's result as `G` says, its own part as it was, and every
    semaphore at zero. -/
theorem result : θ_run (defs (F := F)) (onTc (τ := τ) (main (F := F))) ⟨m, fun _ => 0, ρ⟩ (fun r =>
    (∀ c : Dev nD, r.2.mem ((c.tc : Thread nD τ).loc main_v1) = G m c
        ∧ r.2.mem ((c.tc : Thread nD τ).loc main_arg0) = X m c)
      ∧ r.2.sem = fun _ => 0) := by
  refine (θ_run (defs (F := F)) _ _).mono (Q := fun r => (∀ c : Dev nD, Ends m c r.2) ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (X := Unit) (Variants.lift 𝒱₀) (Pipeline.owing fun d => owed d order) 0
        (noBookings fun _ => le_rfl) (Pipeline.owing_of_ne _) _ (fun _ => begins m) (fun _ => ends m)
        (fun _ => iprop(emp)) Set.univ (launch_all m ρ) (fun _ c => core_run m c) fun _ => ?_))
  iintro ⟨H, -, Hsc⟩ %s' HSI
  ihave %hsc := (scSems_read_zero m ρ s') $$ [Hsc HSI]
  · isplitl [Hsc] <;> iassumption
  imod (posts_fupd Finset.univ (read_end m) s') $$ [H HSI] with %h
  · isplitl [H] <;> iassumption
  imodintro
  ipureintro
  exact ⟨fun c => h c (Finset.mem_univ c), hsc⟩

end Cert.KernelIdeal.K

end
-- ==== Proof.Ideal.Value.lean ====
/-
  The result as one array.

  When the devices' parts are the two halves of one array, cut along its rows, every device's result is that array:
  a row of it always comes from a device of the half that holds the row.
-/
module

public import proofs.«01_k».proof.Proof.Ideal.Geo
public import Idealize.ShloMosaic.Lib.Layout

@[expose] public section

noncomputable section

namespace Cert.KernelIdeal.K

open Idealize.ShloMosaic Idealize.ShloMosaic.TcCoe
open Idealize.SL Idealize.SL.Sem
open Cert.KernelIdeal.Gen

variable {F : FTy → Type} [FloatOps F]

/-- A row of the other half comes from a device of the other half. -/
theorem orgQ_half (c : Dev nD) (q : Fin 4) (e : Bool) : (orgQ c q e).val / 8 = 1 - c.val / 8 := by
  revert c q e; decide +kernel

/-- A row comes from a device of the half that holds it. -/
theorem org_half (c : Dev nD) (r : Nat) (h : r < 65536) : (org c r).val / 8 = r / 32768 := by
  have hc := half_lt c
  unfold org
  split
  · omega
  · rw [orgQ_half]; omega

/-- Which half a device holds, as the cut of the array says it. -/
theorem block_row (c : Dev nD) : Layout.meshLin [2, 2, 4] c.val [0] = c.val / 8 := by
  revert c; decide +kernel

variable (m : (ℓ : Loc nD τ sig) → Buf (Elt F) ℓ)

/-- If each device's part is its half of `v`, each device's result is `v`. -/
theorem G_eq (v : S65536x1024.Idx → Elt F .f32)
    (h : ∀ c : Dev nD, X m c = Layout.blockN ⟨2, ![32768, 1024]⟩ ⟨2, ![65536, 1024]⟩ (Layout.meshBlock [2, 2, 4] ![[0], []] c) v)
    (c : Dev nD) : G m c = v := by
  funext j
  have hr : ((show S65536x1024.Idx from j) 0).val < 65536 := ((show S65536x1024.Idx from j) 0).isLt
  have e := org_half c _ hr
  show X m (org c ((show S65536x1024.Idx from j) 0).val) (xix j) = v j
  rw [h]
  refine (Layout.blockN_apply _ _ _ _).trans (congrArg v (funext fun b => Fin.ext ?_))
  refine (Layout.TilesN.idx_val _ _ _ _).trans ?_
  match b with
  | 0 =>
    show Layout.meshLin [2, 2, 4] (org c ((show S65536x1024.Idx from j) 0).val).val [0] * 32768
      + ((show S65536x1024.Idx from j) 0).val % 32768 = ((show S65536x1024.Idx from j) 0).val
    rw [block_row, e]
    omega
  | 1 =>
    show Layout.meshLin [2, 2, 4] (org c ((show S65536x1024.Idx from j) 0).val).val [] * 1024
      + ((show S65536x1024.Idx from j) 1).val = ((show S65536x1024.Idx from j) 1).val
    show 0 * 1024 + _ = _
    omega

end Cert.KernelIdeal.K

end
-- ==== Proof.lean ====
/-
  The claims.

  Both forms of the kernel run, leave their argument as it was and end with every semaphore at zero
  (`Proof/Whole.lean`). The reference returns its argument. Over the ideal numbers the kernel's result on every
  device is the reference's array, of which the devices' arguments are the two halves (`Proof/Ideal/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Whole
public import proofs.«01_k».proof.Proof.Ideal.Whole
public import proofs.«01_k».proof.Proof.Ideal.Value
public import Idealize.ShloMosaic.Lib.Quiescent
public import Idealize.ShloMosaic.Lib.StableHlo.Run
public import Idealize.ShloMosaic.Adequacy
public import Idealize.ShloMosaic.Init

@[expose] public section

noncomputable section

namespace Cert.Proof

open Idealize.ShloMosaic Idealize.ShloMosaic.TcCoe Idealize.SL.Sem

/-- The kernel, as printed: it runs, its argument ends as it was, every semaphore ends at zero. -/
theorem frame_kernel : Cert.quiescent_Kernel (hKernel := Cert.Kernel.Gen.facts) := fun m g _ =>
  (θ_run (Cert.Kernel.defs (F := Bits)) _ _).mono (fun _ h => ⟨fun c => (h.1 c).2, h.2⟩)
    (Cert.Kernel.K.result (F := Bits) m g)

/-- The kernel over the ideal numbers: the same. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩)
    (Cert.KernelIdeal.K.result (F := Ideal) m g)

/-- The reference does nothing: its argument, which is its result, ends as it was. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run (Cert.ReferenceIdeal.defs (F := Ideal)) _ _).mono (fun _ h c => h c Cert.ReferenceIdeal.main_arg0)
    (StableHlo.run_seq (by decide) (by decide) Cert.ReferenceIdeal.defs Cert.ReferenceIdeal.main (fun _ => []) (fun _ => rfl)
      (fun _ => trivial) m g)

/-- The reference: it runs, its argument ends as it was, and it has no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨h, sem_eq_zero_of_no_sems (by decide) r.2⟩) (reference_run m g)

/-- Over the ideal numbers every device's result is the reference's array. -/
theorem value : Cert.algebraic_KernelIdeal_ReferenceIdeal (hKernelIdeal := Cert.KernelIdeal.Gen.facts)
    (hReferenceIdeal := Cert.ReferenceIdeal.Gen.facts) := fun m g m' g' _ hm =>
  ⟨m' (((0 : Dev Cert.ReferenceIdeal.nD).tc : Thread Cert.ReferenceIdeal.nD Cert.ReferenceIdeal.τ).loc Cert.ReferenceIdeal.main_arg0),
    (θ_run (Cert.KernelIdeal.defs (F := Ideal)) _ _).mono
      (fun _ h c => ⟨(h.1 c).1.trans (Cert.KernelIdeal.K.G_eq m _ hm c), (h.1 c).2⟩)
      (Cert.KernelIdeal.K.result (F := Ideal) m g),
    (θ_run (Cert.ReferenceIdeal.defs (F := Ideal)) _ _).mono (fun _ h => ⟨h 0, h 0⟩) (reference_run m' g')⟩

/-- All of them. -/
theorem claim : Cert.Claim :=
  ⟨Cert.Kernel.Gen.facts, Cert.KernelIdeal.Gen.facts, Cert.ReferenceIdeal.Gen.facts,
    frame_kernel, frame_ideal, frame_reference, trivial, value⟩

end Cert.Proof

end
